-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_permuted_and_finite [hPre_permuted_and_finite : Cert.Pre_permuted_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_permuted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_permuted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_permuted_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_permuted_and_finite [hPre_permuted_and_finite : Cert.Pre_permuted_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_permuted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_permuted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_permuted_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_permuted_and_finite [hKernelIdeal : Cert.KernelIdeal.Facts] [hPre_permuted_and_finite : Cert.Pre_permuted_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_permuted_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_permuted_and_finite [hReferenceIdeal : Cert.ReferenceIdeal.Facts] [hPre_permuted_and_finite : Cert.Pre_permuted_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_permuted_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_permuted_and_finite [hKernelIdeal : Cert.KernelIdeal.Facts] [hReferenceIdeal : Cert.ReferenceIdeal.Facts] [hPre_permuted_and_finite : Cert.Pre_permuted_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_permuted_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_permuted_and_finite : Cert.Pre_permuted_and_finite.Facts),
    quiescent_Kernel (hKernel := hKernel)
    ∧ quiescent_KernelIdeal (hKernelIdeal := hKernelIdeal)
    ∧ quiescent_KernelIdeal_pre_permuted_and_finite (hKernelIdeal := hKernelIdeal) (hPre_permuted_and_finite := hPre_permuted_and_finite)
    ∧ quiescent_ReferenceIdeal (hReferenceIdeal := hReferenceIdeal)
    ∧ quiescent_ReferenceIdeal_pre_permuted_and_finite (hReferenceIdeal := hReferenceIdeal) (hPre_permuted_and_finite := hPre_permuted_and_finite)
    ∧ preserves_Kernel_KernelIdeal
    ∧ algebraic_KernelIdeal_ReferenceIdeal_pre_permuted_and_finite (hKernelIdeal := hKernelIdeal) (hReferenceIdeal := hReferenceIdeal) (hPre_permuted_and_finite := hPre_permuted_and_finite)
-- ==== Pre_permuted_and_finite.lean ====
abbrev S8x1x16x128 : Shape := ⟨4, ![8, 1, 16, 128]⟩
abbrev S8x2048x16x128 : Shape := ⟨4, ![8, 2048, 16, 128]⟩
abbrev S1024x16x16x128 : Shape := ⟨4, ![1024, 16, 16, 128]⟩
abbrev S8x128 : Shape := ⟨2, ![8, 128]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩

class Facts : Prop where
  shapeCasts_S8x128_S1024 : S8x128.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S8x1x16x128 : S_.BroadcastsInDim S8x1x16x128 (![] : Fin 0 → Fin S8x1x16x128.rank)
  bcast_S_S8x2048x16x128 : S_.BroadcastsInDim S8x2048x16x128 (![] : Fin 0 → Fin S8x2048x16x128.rank)

variable [Facts]

def fn_part1 {F : FTy → Type} [FloatOps F] (main_arg1 : FVec F S8x2048x16x128 .f32) (main_v20 : IVec S1024x1024 1) (main_v21 : FVec F S8x1x16x128 .f32) : IVec S1024x1024 1 × IVec S8x1x16x128 1 × IVec S8x2048x16x128 1 :=
  let main_cst : FVec F S_ .f32 := constant S_ .f32 0x7F800000#32
  let main_v22 : FVec F S8x1x16x128 .f32 := broadcastInDim S8x1x16x128 ![] bcast_S_S8x1x16x128 main_cst
  let main_v23 : IVec S8x1x16x128 1 := cmpf .olt main_v21 main_v22
  let main_v24 : FVec F S8x2048x16x128 .f32 := Host.absf main_arg1
  let main_cst_1 : FVec F S_ .f32 := constant S_ .f32 0x7F800000#32
  let main_v25 : FVec F S8x2048x16x128 .f32 := broadcastInDim S8x2048x16x128 ![] bcast_S_S8x2048x16x128 main_cst_1
  let main_v26 : IVec S8x2048x16x128 1 := cmpf .olt main_v24 main_v25
  (main_v20, main_v23, main_v26)

def fn {F : FTy → Type} [FloatOps F] (main_arg0 : FVec F S8x1x16x128 .f32) (main_arg1 : FVec F S8x2048x16x128 .f32) (main_arg2 : FVec F S8x2048x16x128 .f32) (main_arg3 : FVec F S1024x16x16x128 .f32) (main_arg4 : FVec F S1024x16x16x128 .f32) (main_arg5 : IVec S8x128 32) : IVec S1024x1024 1 × IVec S8x1x16x128 1 × IVec S8x2048x16x128 1 :=
  let main_v0 : IVec S1024 32 := shapeCast S1024 main_arg5 shapeCasts_S8x128_S1024
  let main_v1 : IVec S1024 32 := iotaInDim S1024 32 0
  let main_c : IVec S_ 32 := constantI S_ 32 0#32
  let main_v2 : IVec S1024 32 := broadcastInDim S1024 ![] bcast_S_S1024 main_c
  let main_v3 : IVec S1024 1 := cmpi .sge main_v0 main_v2
  let main_c_0 : IVec S_ 32 := constantI S_ 32 1024#32
  let main_v4 : IVec S1024 32 := broadcastInDim S1024 ![] bcast_S_S1024 main_c_0
  let main_v5 : IVec S1024 1 := cmpi .slt main_v0 main_v4
  let main_v6 : IVec S1024 1 := andi main_v3 main_v5
  let main_v7 : IVec S1024x1 32 := broadcastInDim S1024x1 ![0] bcast_S1024_S1024x1_0 main_v0
  let main_v8 : IVec S1x1024 32 := broadcastInDim S1x1024 ![1] bcast_S1024_S1x1024_1 main_v0
  let main_v9 : IVec S1024x1024 32 := broadcastInDim S1024x1024 ![0, 1] bcast_S1024x1_S1024x1024_0_1 main_v7
  let main_v10 : IVec S1024x1024 32 := broadcastInDim S1024x1024 ![0, 1] bcast_S1x1024_S1024x1024_0_1 main_v8
  let main_v11 : IVec S1024x1024 1 := cmpi .ne main_v9 main_v10
  let main_v12 : IVec S1024x1 32 := broadcastInDim S1024x1 ![0] bcast_S1024_S1024x1_0 main_v1
  let main_v13 : IVec S1x1024 32 := broadcastInDim S1x1024 ![1] bcast_S1024_S1x1024_1 main_v1
  let main_v14 : IVec S1024x1024 32 := broadcastInDim S1024x1024 ![0, 1] bcast_S1024x1_S1024x1024_0_1 main_v12
  let main_v15 : IVec S1024x1024 32 := broadcastInDim S1024x1024 ![0, 1] bcast_S1x1024_S1024x1024_0_1 main_v13
  let main_v16 : IVec S1024x1024 1 := cmpi .eq main_v14 main_v15
  let main_v17 : IVec S1024x1024 1 := ori main_v11 main_v16
  let main_v18 : IVec S1024x1 1 := broadcastInDim S1024x1 ![0] bcast_S1024_S1024x1_0 main_v6
  let main_v19 : IVec S1024x1024 1 := broadcastInDim S1024x1024 ![0, 1] bcast_S1024x1_S1024x1024_0_1 main_v18
  let main_v20 : IVec S1024x1024 1 := andi main_v19 main_v17
  let main_v21 : FVec F S8x1x16x128 .f32 := Host.absf main_arg0
  fn_part1 (F := F) main_arg1 main_v20 main_v21
-- ==== Kernel.lean ====
abbrev S8x1x16x128 : Shape := ⟨4, ![8, 1, 16, 128]⟩
abbrev S8x2048x16x128 : Shape := ⟨4, ![8, 2048, 16, 128]⟩
abbrev S1024x16x16x128 : Shape := ⟨4, ![1024, 16, 16, 128]⟩
abbrev S8x128 : Shape := ⟨2, ![8, 128]⟩
abbrev S1024 : Shape := ⟨1, ![1024]⟩
abbrev S_ : Shape := ⟨0, ![]⟩
abbrev S1024x1 : Shape := ⟨2, ![1024, 1]⟩
abbrev S8x16x128 : Shape := ⟨3, ![8, 16, 128]⟩
abbrev S1x16x128 : Shape := ⟨3, ![1, 16, 128]⟩
abbrev S64x16x16x128 : Shape := ⟨4, ![64, 16, 16, 128]⟩
abbrev S1x1 : Shape := ⟨2, ![1, 1]⟩
abbrev S16x1 : Shape := ⟨2, ![16, 1]⟩
abbrev S16x128 : Shape := ⟨2, ![16, 128]⟩
abbrev S16384x128 : Shape := ⟨2, ![16384, 128]⟩
abbrev S16384x16 : Shape := ⟨2, ![16384, 16]⟩
abbrev S16x16 : Shape := ⟨2, ![16, 16]⟩
abbrev S1024x16x16 : Shape := ⟨3, ![1024, 16, 16]⟩
abbrev S1x16x16 : Shape := ⟨3, ![1, 16, 16]⟩
abbrev S1024x16 : Shape := ⟨2, ![1024, 16]⟩
abbrev S16x1024 : Shape := ⟨2, ![16, 1024]⟩
abbrev S16 : Shape := ⟨1, ![16]⟩
abbrev S1024x2048 : Shape := ⟨2, ![1024, 2048]⟩
abbrev S16x2048 : Shape := ⟨2, ![16, 2048]⟩
abbrev S16x16x128 : Shape := ⟨3, ![16, 16, 128]⟩
abbrev S16x16x1 : Shape := ⟨3, ![16, 16, 1]⟩

abbrev nBuf : Space → Nat
  | .hbm => 24
  | .vmem => 11
  | .smem => 1
  | _ => 0

abbrev bufTy : (tb : Table) → Fin (tcTables nBuf tb) → BufTy
  | .hbm, ⟨0, _⟩ => ⟨S8x1x16x128, .f32⟩
  | .hbm, ⟨1, _⟩ => ⟨S8x2048x16x128, .f32⟩
  | .hbm, ⟨2, _⟩ => ⟨S8x2048x16x128, .f32⟩
  | .hbm, ⟨3, _⟩ => ⟨S1024x16x16x128, .f32⟩
  | .hbm, ⟨4, _⟩ => ⟨S1024x16x16x128, .f32⟩
  | .hbm, ⟨5, _⟩ => ⟨S8x128, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S1024, .i32⟩
  | .hbm, ⟨19, _⟩ => ⟨S1024x16x16x128, .f32⟩
  | .hbm, ⟨20, _⟩ => ⟨S1024x16x16x128, .f32⟩
  | .hbm, ⟨21, _⟩ => ⟨S8x16x128, .f32⟩
  | .hbm, ⟨22, _⟩ => ⟨S8x16x128, .f32⟩
  | .hbm, ⟨23, _⟩ => ⟨S8x1x16x128, .f32⟩
  | .local _ .vmem, ⟨0, _⟩ => ⟨S1x16x128, .f32⟩
  | .local _ .vmem, ⟨1, _⟩ => ⟨S1x16x128, .f32⟩
  | .local _ .vmem, ⟨2, _⟩ => ⟨S64x16x16x128, .f32⟩
  | .local _ .vmem, ⟨3, _⟩ => ⟨S64x16x16x128, .f32⟩
  | .local _ .vmem, ⟨4, _⟩ => ⟨S64x16x16x128, .f32⟩
  | .local _ .vmem, ⟨5, _⟩ => ⟨S64x16x16x128, .f32⟩
  | .local _ .vmem, ⟨6, _⟩ => ⟨S1x16x128, .f32⟩
  | .local _ .vmem, ⟨7, _⟩ => ⟨S1x16x128, .f32⟩
  | .local _ .vmem, ⟨8, _⟩ => ⟨S16x1, .f32⟩
  | .local _ .vmem, ⟨9, _⟩ => ⟨S16x1, .f32⟩
  | .local _ .vmem, ⟨10, _⟩ => ⟨S16x128, .f32⟩
  | .local _ .smem, ⟨0, _⟩ => ⟨S8x128, .i32⟩
  | _, _ => ⟨S8x1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1_0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v1 : Index := Scalar.indexCast arg0
  let arg1 : BitVec 32 := BitVec.ofNat 32 (i 1).val
  let c64_i32 : BitVec 32 := 64#32
  let v0 : BitVec 32 := Scalar.muli arg1 c64_i32
  let v2 : Index := Scalar.indexCast v0
  ![v1.toNat, v2.toNat]
def k0_cond2 (i : grid0.Coords) : BitVec 1 :=
  let arg1 : BitVec 32 := BitVec.ofNat 32 (i 1).val
  let c1_i32 : BitVec 32 := 1#32
  let v58 : BitVec 1 := Scalar.cmpi .eq arg1 c1_i32
  let v59 : BitVec 32 := Scalar.extui v58
  let c0_i32_29 : BitVec 32 := 0#32
  let v60 : BitVec 1 := Scalar.cmpi .ne v59 c0_i32_29
  v60

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1x1.size a ≤ S8x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let v1 : Index := Scalar.indexCast arg0
  let v2 : Index := Scalar.indexCast v0
  let v3 : BitVec 32 := pf.at 0 (Rect.unit (s := S8x128) ![v1.toNat, v2.toNat] S1x1.size (k0_off1_inb i)) numel1_S1x1
  let c64_i32_0 : BitVec 32 := 64#32
  let v4 : BitVec 32 := Scalar.divsi v3 c64_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  let c0_i32_7 : BitVec 32 := 0#32
  let c0_i32_8 : BitVec 32 := 0#32
  ![v20.toNat, c0_i32_5.toNat, c0_i32_6.toNat, c0_i32_7.toNat]

def cc0_transform_2 (k0_off1_inb : ∀ i : grid0.Coords, ∀ a, (k0_off1 i) a + S1x1.size a ≤ S8x128.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let v1 : Index := Scalar.indexCast arg0
  let v2 : Index := Scalar.indexCast v0
  let v3 : BitVec 32 := pf.at 0 (Rect.unit (s := S8x128) ![v1.toNat, v2.toNat] S1x1.size (k0_off1_inb i)) numel1_S1x1
  let c64_i32_0 : BitVec 32 := 64#32
  let v4 : BitVec 32 := Scalar.divsi v3 c64_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c64_i32_0 c0_i32_2
  let v11 : BitVec 32 := Scalar.extui v10
  let c0_i32_3 : BitVec 32 := 0#32
  let v12 : BitVec 1 := Scalar.cmpi .slt c64_i32_0 c0_i32_3
  let v13 : BitVec 32 := Scalar.extui v12
  let v14 : BitVec 32 := Scalar.subi v11 v13
  let v15 : BitVec 1 := Scalar.cmpi .ne v9 v14
  let v16 : BitVec 32 := Scalar.remsi v3 c64_i32_0
  let c0_i32_4 : BitVec 32 := 0#32
  let v17 : BitVec 1 := Scalar.cmpi .ne v16 c0_i32_4
  let v18 : BitVec 1 := Scalar.andi v15 v17
  let c1_i32 : BitVec 32 := 1#32
  let v19 : BitVec 32 := Scalar.subi v4 c1_i32
  let v20 : BitVec 32 := Scalar.select v18 v19 v4
  let c0_i32_5 : BitVec 32 := 0#32
  let c0_i32_6 : BitVec 32 := 0#32
  let c0_i32_7 : BitVec 32 := 0#32
  let c0_i32_8 : BitVec 32 := 0#32
  ![v20.toNat, c0_i32_5.toNat, c0_i32_6.toNat, c0_i32_7.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x16x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x16x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S8x1x16x128 : Shape := ⟨4, ![8, 1, 16, 128]⟩
abbrev S8x2048x16x128 : Shape := ⟨4, ![8, 2048, 16, 128]⟩
abbrev S1024x16x16x128 : Shape := ⟨4, ![1024, 16, 16, 128]⟩
abbrev S8x128 : Shape := ⟨2, ![8, 128]⟩
abbrev S1024 : Shape := ⟨1, ![1024]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S8x16x1x2048 : Shape := ⟨4, ![8, 16, 1, 2048]⟩
abbrev S8x16x1 : Shape := ⟨3, ![8, 16, 1]⟩
abbrev S8x16x1x1 : Shape := ⟨4, ![8, 16, 1, 1]⟩
abbrev S8x16x128x1 : Shape := ⟨4, ![8, 16, 128, 1]⟩

abbrev nBuf : Space → Nat
  | .hbm => 98
  | .vmem => 0
  | .smem => 0
  | _ => 0

abbrev bufTy : (tb : Table) → Fin (tcTables nBuf tb) → BufTy
  | .hbm, ⟨0, _⟩ => ⟨S8x1x16x128, .f32⟩
  | .hbm, ⟨1, _⟩ => ⟨S8x2048x16x128, .f32⟩
  | .hbm, ⟨2, _⟩ => ⟨S8x2048x16x128, .f32⟩
  | .hbm, ⟨3, _⟩ => ⟨S1024x16x16x128, .f32⟩
  | .hbm, ⟨4, _⟩ => ⟨S1024x16x16x128, .f32⟩
  | .hbm, ⟨5, _⟩ => ⟨S8x128, .i32⟩
  | .hbm, ⟨6, _⟩ => ⟨S1024, .i32⟩
  | .hbm, ⟨7, _⟩ => ⟨S1024x16x16x128, .f32⟩
  | .hbm, ⟨8, _⟩ => ⟨S1024x16x16x128, .f32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1024x16x16x128, .f32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S1024x16x16x128, .f32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S1024x1, .i32⟩
  | .hbm, ⟨35, _⟩ => ⟨S1, .i32⟩
  | .hbm, ⟨36, _⟩ => ⟨S_, .i32⟩
  | .hbm, ⟨37, _⟩ => ⟨S1024x1, .i32⟩
  | .hbm, ⟨38, _⟩ => ⟨S1024x1, .i1⟩
  | .hbm, ⟨39, _⟩ => ⟨S1x1, .i32⟩
  | .hbm, ⟨40, _⟩ => ⟨S1024x1, .i32⟩
  | .hbm, ⟨41, _⟩ => ⟨S1024x1, .i1⟩
  | .hbm, ⟨42, _⟩ => ⟨S1024x1, .i1⟩
  | .hbm, ⟨43, _⟩ => ⟨S_, .i1⟩
  | .hbm, ⟨44, _⟩ => ⟨S1024, .i1⟩
  | .hbm, ⟨45, _⟩ => ⟨S1024x16x16x128, .f32⟩
  | .hbm, ⟨46, _⟩ => ⟨S1024x16x16x128, .i1⟩
  | .hbm, ⟨47, _⟩ => ⟨S_, .f32⟩
  | .hbm, ⟨48, _⟩ => ⟨S1024x16x16x128, .f32⟩
  | .hbm, ⟨49, _⟩ => ⟨S1024x16x16x128, .f32⟩
  | .hbm, ⟨50, _⟩ => ⟨S8x2048x16x128, .f32⟩
  | .hbm, ⟨51, _⟩ => ⟨S_, .i32⟩
  | .hbm, ⟨52, _⟩ => ⟨S1024, .i32⟩
  | .hbm, ⟨53, _⟩ => ⟨S1024, .i1⟩
  | .hbm, ⟨54, _⟩ => ⟨S_, .i32⟩
  | .hbm, ⟨55, _⟩ => ⟨S1024, .i32⟩
  | .hbm, ⟨56, _⟩ => ⟨S1024, .i32⟩
  | .hbm, ⟨57, _⟩ => ⟨S1024, .i32⟩
  | .hbm, ⟨58, _⟩ => ⟨S1024x1, .i32⟩
  | .hbm, ⟨59, _⟩ => ⟨S1, .i32⟩
  | .hbm, ⟨60, _⟩ => ⟨S_, .i32⟩
  | .hbm, ⟨61, _⟩ => ⟨S1024x1, .i32⟩
  | .hbm, ⟨62, _⟩ => ⟨S1024x1, .i1⟩
  | .hbm, ⟨63, _⟩ => ⟨S1x1, .i32⟩
  | .hbm, ⟨64, _⟩ => ⟨S1024x1, .i32⟩
  | .hbm, ⟨65, _⟩ => ⟨S1024x1, .i1⟩
  | .hbm, ⟨66, _⟩ => ⟨S1024x1, .i1⟩
  | .hbm, ⟨67, _⟩ => ⟨S_, .i1⟩
  | .hbm, ⟨68, _⟩ => ⟨S1024, .i1⟩
  | .hbm, ⟨69, _⟩ => ⟨S1024x16x16x128, .f32⟩
  | .hbm, ⟨70, _⟩ => ⟨S1024x16x16x128, .i1⟩
  | .hbm, ⟨71, _⟩ => ⟨S_, .f32⟩
  | .hbm, ⟨72, _⟩ => ⟨S1024x16x16x128, .f32⟩
  | .hbm, ⟨73, _⟩ => ⟨S1024x16x16x128, .f32⟩
  | .hbm, ⟨74, _⟩ => ⟨S8x2048x16x128, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S8x16x1x2048, .f32⟩
  | .hbm, ⟨80, _⟩ => ⟨S8x16x1x2048, .f32⟩
  | .hbm, ⟨81, _⟩ => ⟨S8x16x1x2048, .f32⟩
  | .hbm, ⟨82, _⟩ => ⟨S_, .f32⟩
  | .hbm, ⟨83, _⟩ => ⟨S8x16x1, .f32⟩
  | .hbm, ⟨84, _⟩ => ⟨S_, .f32⟩
  | .hbm, ⟨85, _⟩ => ⟨S8x16x1, .f32⟩
  | .hbm, ⟨86, _⟩ => ⟨S8x16x1, .f32⟩
  | .hbm, ⟨87, _⟩ => ⟨S8x16x1x1, .f32⟩
  | .hbm, ⟨88, _⟩ => ⟨S8x16x1x2048, .f32⟩
  | .hbm, ⟨89, _⟩ => ⟨S8x16x1x2048, .f32⟩
  | .hbm, ⟨90, _⟩ => ⟨S8x16x1x2048, .f32⟩
  | .hbm, ⟨91, _⟩ => ⟨S_, .f32⟩
  | .hbm, ⟨92, _⟩ => ⟨S8x16x1, .f32⟩
  | .hbm, ⟨93, _⟩ => ⟨S8x16x1x1, .f32⟩
  | .hbm, ⟨94, _⟩ => ⟨S8x16x1x2048, .f32⟩
  | .hbm, ⟨95, _⟩ => ⟨S8x16x1x2048, .f32⟩
  | .hbm, ⟨96, _⟩ => ⟨S8x16x128x1, .f32⟩
  | .hbm, ⟨97, _⟩ => ⟨S8x1x16x128, .f32⟩
  | _, _ => ⟨S8x1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_c : Ref sig .tc := ⟨.hbm, 27, rfl⟩
abbrev main_call0_v0 : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_c_2 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_3 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_cst : Ref sig .tc := ⟨.hbm, 47, rfl⟩
abbrev main_call0_v15 : Ref sig .tc := ⟨.hbm, 48, rfl⟩
abbrev main_v17 : Ref sig .tc := ⟨.hbm, 49, rfl⟩
abbrev main_v18 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v19 : Ref sig .tc := ⟨.hbm, 73, rfl⟩
abbrev main_v20 : Ref sig .tc := ⟨.hbm, 74, rfl⟩
abbrev main_cst : Ref sig .tc := ⟨.hbm, 75, rfl⟩
abbrev main_v21 : Ref sig .tc := ⟨.hbm, 76, rfl⟩
abbrev main_cst_3 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_cst_4 : Ref sig .tc := ⟨.hbm, 82, rfl⟩
abbrev main_v26 : Ref sig .tc := ⟨.hbm, 83, rfl⟩
abbrev main_cst_5 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_cst_6 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩

abbrev nD : Nat := 1
abbrev τ : Topo := Topo.v7x

variable {F : FTy → Type} [FloatOps F]
-- ==== Proof.Order.lean ====
/- The block table's argsort.

   The kernel looks for a block in the reshaped key by the place of its number in the sorted table. Here: every word of
   that inverse table is a place of the table, whatever the table holds; and where the table's words are the numbers
   `0 .. n − 1`, each once, the entry read through the table's own word is the identity. -/
module

public import Idealize.ShloMosaic.Lib.SortFacts
public import Idealize.ShloMosaic.Lib.StableHlo.Predicate
public import Idealize.ShloMosaic.Lib.ValueIdx
public import Idealize.ShloMosaic.Lib.Pipeline.Value

@[expose] public section

noncomputable section

namespace Cert.Proof.Order

open Idealize.ShloMosaic

/-- A word that is a small number, read signed, is that number. -/
theorem toInt_number {k : Nat} (hk : k < 2 ^ 31) : (BitVec.ofNat 32 k).toInt = k := by
  rw [BitVec.toInt_ofNat', Int.bmod_eq_of_le] <;> push_cast <;> omega

/-- An index of a rank-1 shape at place `k`. -/
abbrev at1 {n : Nat} (k : Fin n) : (⟨1, ![n]⟩ : Shape).Idx := Shape.Idx.ofFin k

/-- The table's order on places: place `k`'s word is smaller, read signed. -/
abbrev before {n : Nat} (x : IVec ⟨1, ![n]⟩ 32) (k k' : Fin n) : Bool := IntOp.cmpi .slt (x (at1 k)) (x (at1 k')) == 1#1

/-- The comparator of the argsort: the keys compared, signed. -/
abbrev keyLess (l r : BitVec 32 × BitVec 32) : BitVec 1 := IntOp.cmpi .slt l.1 r.1

/-- The argsort's places: entry `j` is the place whose word the stable sort puts at `j`. -/
theorem argsort_apply {n : Nat} (x : IVec ⟨1, ![n]⟩ 32) (j : Fin n) :
    (Host.sort2 ⟨1, ![n]⟩ 0 keyLess x (iotaInDim ⟨1, ![n]⟩ 32 0)).2 (at1 j) = BitVec.ofNat 32 (sortedFrom (before x) j).val := by
  unfold Host.sort2
  rw [dif_pos (show 0 < (⟨1, ![n]⟩ : Shape).rank from Nat.one_pos)]
  simp [iotaInDim]

/-- Every entry of the argsort is a place of the table. -/
theorem argsort_lt {n : Nat} (hn : n ≤ 2 ^ 32) (x : IVec ⟨1, ![n]⟩ 32) (j : Fin n) :
    ((Host.sort2 ⟨1, ![n]⟩ 0 keyLess x (iotaInDim ⟨1, ![n]⟩ 32 0)).2 (at1 j)).toNat < n := by
  rw [argsort_apply, BitVec.toNat_ofNat]
  exact lt_of_le_of_lt (Nat.mod_le _ _) (Fin.isLt _)

/-- Where place `k` holds the number `v k`, `v` one-to-one, the stable sort puts place `i` at `v i`. -/
theorem sortedFrom_number {n : Nat} (hn : n < 2 ^ 31) (x : IVec ⟨1, ![n]⟩ 32) (v : Fin n → Fin n)
    (hx : ∀ k, x (at1 k) = BitVec.ofNat 32 (v k).val) (hv : Function.Injective v) (i : Fin n) :
    sortedFrom (before x) (v i) = i := by
  have hb : ∀ k k', before x k k' = decide (v k < v k') := fun k k' => by
    unfold before
    rw [hx, hx]
    have h1 := toInt_number ((v k).isLt.trans hn)
    have h2 := toInt_number ((v k').isLt.trans hn)
    by_cases h : v k < v k'
    · simp [IntOp.cmpi, BitVec.slt, h1, h2, h, Fin.lt_def.mp h]
    · have h' : ¬ (v k).val < (v k').val := fun h' => h (Fin.lt_def.mpr h')
      simp [IntOp.cmpi, BitVec.slt, h1, h2, h, h']
  have hmono : StrictMono fun j => v (sortedFrom (before x) j) := fun a b hab => by
    have hno := sortedFrom_noInversion (before x) (before x)
      (fun p q h => by rw [hb] at h ⊢; simp at h ⊢; exact h.le)
      (fun _ _ h => h)
      (fun p q r h h' => by rw [hb] at h h' ⊢; simp at h h' ⊢; exact h'.trans h) a b hab
    rw [hb] at hno
    have hle : v (sortedFrom (before x) a) ≤ v (sortedFrom (before x) b) := by simpa using hno
    exact lt_of_le_of_ne hle fun he => hab.ne (sortedFrom_injective (before x) (hv he))
  have hid : ∀ j, v (sortedFrom (before x) j) = j := fun j =>
    DFunLike.congr_fun (Subsingleton.elim
      (StrictMono.orderIsoOfSurjective _ hmono (Finite.injective_iff_surjective.mp hmono.injective)) (OrderIso.refl _)) j
  exact hv (hid (v i))

/-- A negative word of a table counts from the end: jnp's wrap of one index into `[0, n)`. -/
abbrev wrap (N : BitVec 32) (w : BitVec 32) : BitVec 32 := if IntOp.cmpi .slt w 0#32 = 1#1 then IntOp.addi w N else w

/-- A word that is a small number is left as it is. -/
theorem wrap_number (N : BitVec 32) {k : Nat} (hk : k < 2 ^ 31) : wrap N (BitVec.ofNat 32 k) = BitVec.ofNat 32 k := by
  unfold wrap
  rw [if_neg]
  have h1 := toInt_number hk
  have h2 : ¬ (k : Int) < 0 := by omega
  simp [IntOp.cmpi, BitVec.slt, h1, h2]

/-- THE INVERSE TABLE as the program computes it from the flat table: the argsort, taken at the table's own words
    (a negative word counting from the end, a word outside read at the nearest end). -/
def inverse {n : Nat} (d : GatherDims ⟨1, ![n]⟩ ⟨2, ![n, 1]⟩ ⟨1, ![n]⟩)
    (h₀ : (⟨0, ![]⟩ : Shape).BroadcastsInDim ⟨1, ![n]⟩ ![]) (h₁ : (⟨1, ![n]⟩ : Shape).BroadcastsInDim ⟨2, ![n, 1]⟩ ![0])
    (N : BitVec 32) (flat : IVec ⟨1, ![n]⟩ 32) : IVec ⟨1, ![n]⟩ 32 :=
  Host.gather d (Host.sort2 ⟨1, ![n]⟩ 0 keyLess flat (iotaInDim ⟨1, ![n]⟩ 32 0)).2
    (broadcastInDim ⟨2, ![n, 1]⟩ ![0] h₁
      (select (cmpi .slt flat (broadcastInDim ⟨1, ![n]⟩ ![] h₀ (constantI ⟨0, ![]⟩ 32 0#32)))
        (addi flat (broadcastInDim ⟨1, ![n]⟩ ![] h₀ (constantI ⟨0, ![]⟩ 32 N))) flat))

section
variable {n : Nat} (d : GatherDims ⟨1, ![n]⟩ ⟨2, ![n, 1]⟩ ⟨1, ![n]⟩)
  (hcoll : d.collapsedSliceDims = [0]) (hob : d.operandBatchingDims = []) (hsim : d.startIndexMap = [0]) (hivd : d.indexVectorDim = 1)
  (h₀ : (⟨0, ![]⟩ : Shape).BroadcastsInDim ⟨1, ![n]⟩ ![]) (h₁ : (⟨1, ![n]⟩ : Shape).BroadcastsInDim ⟨2, ![n, 1]⟩ ![0])
  (N : BitVec 32) (flat : IVec ⟨1, ![n]⟩ 32)
include hcoll hob hsim hivd

/-- The inverse table at place `p`: the argsort's entry at the table's word there. -/
theorem inverse_apply (p : Fin n) (hn : 0 < n) :
    inverse d h₀ h₁ N flat (at1 p)
      = BitVec.ofNat 32 (sortedFrom (before flat) ⟨min (wrap N (flat (at1 p))).toInt.toNat (n - 1), by omega⟩).val := by
  unfold inverse
  rw [StableHlo.Predicate.gather_take d hcoll hob hsim hivd _ _ p hn, argsort_apply]
  have hw : ∀ a : IVec ⟨1, ![n]⟩ 32, (broadcastInDim ⟨2, ![n, 1]⟩ ![0] h₁ a) (StableHlo.Predicate.ixP p) = a (at1 p) := fun a =>
    broadcastInDim_apply _ h₁ a _ (at1 p) fun c => by
      obtain rfl : c = 0 := Subsingleton.elim _ _
      have hp := p.isLt
      show p.val = if n = 1 then 0 else p.val
      split <;> omega
  simp only [hw]
  rfl

/-- Every word of the inverse table is a place of the table. -/
theorem inverse_lt (hn : 0 < n) (hn' : n ≤ 2 ^ 32) (j : (⟨1, ![n]⟩ : Shape).Idx) : (inverse d h₀ h₁ N flat j).toNat < n := by
  obtain ⟨p, rfl⟩ : ∃ p : Fin n, j = at1 p := ⟨j 0, Shape.Idx.eq_ofFin j⟩
  rw [inverse_apply d hcoll hob hsim hivd h₀ h₁ N flat p hn, BitVec.toNat_ofNat]
  exact lt_of_le_of_lt (Nat.mod_le _ _) (Fin.isLt _)

/-- Where the table holds the numbers below `n`, each once, the inverse table read through it is the identity. -/
theorem inverse_number (hn' : n < 2 ^ 31) (v : Fin n → Fin n) (hx : ∀ k, flat (at1 k) = BitVec.ofNat 32 (v k).val)
    (hv : Function.Injective v) (p : Fin n) : inverse d h₀ h₁ N flat (at1 p) = BitVec.ofNat 32 p.val := by
  have hn : 0 < n := lt_of_le_of_lt (Nat.zero_le _) p.isLt
  rw [inverse_apply d hcoll hob hsim hivd h₀ h₁ N flat p hn]
  have hlt : (v p).val < 2 ^ 31 := (v p).isLt.trans hn'
  have he : (⟨min (wrap N (flat (at1 p))).toInt.toNat (n - 1), by omega⟩ : Fin n) = v p := by
    refine Fin.ext ?_
    show min (wrap N (flat (at1 p))).toInt.toNat (n - 1) = (v p).val
    rw [hx, wrap_number N hlt, toInt_number hlt, Int.toNat_natCast]
    have := (v p).isLt
    omega
  rw [he, sortedFrom_number hn' flat v hx hv]
end

/-- The kernel's block number as a function of the inverse table's word: the floor division by 64, as it is printed. -/
theorem block_of_word (k : Fin 1024) :
    (let v3 := BitVec.ofNat 32 k.val
     Scalar.select (Scalar.andi (Scalar.cmpi .ne (Scalar.subi (Scalar.extui (Scalar.cmpi .sgt v3 0#32)) (Scalar.extui (Scalar.cmpi .slt v3 0#32)))
        (Scalar.subi (Scalar.extui (Scalar.cmpi .sgt 64#32 0#32) : BitVec 32) (Scalar.extui (Scalar.cmpi .slt 64#32 0#32)))) (Scalar.cmpi .ne (Scalar.remsi v3 64#32) 0#32))
        (Scalar.subi (Scalar.divsi v3 64#32) 1#32) (Scalar.divsi v3 64#32) : BitVec 32).toNat = k.val / 64 := by
  revert k
  decide

end Cert.Proof.Order

end

end
-- ==== Proof.IdealTable.lean ====
/- The prefetched table of `KernelIdeal`, and its side condition.

   The table holds the inverse table laid out in rows of 128 words. Its words are places below 1024, whatever the block
   table holds, so every block the index maps name lies inside the reshaped key and value: the side condition holds at
   every memory. -/
module

public import proofs.«01_k».proof.Proof.Order
public import proofs.«01_k».proof.Proof.Gen.KernelIdeal.Frame

@[expose] public section

noncomputable section

namespace Cert.Proof.KernelIdealTable

open Idealize.ShloMosaic Idealize.SL Cert.KernelIdeal Cert.KernelIdeal.Gen

variable {F : FTy → Type} [FloatOps F] (m : (ℓ : Loc nD τ sig) → Buf (Elt F) ℓ)

/-- The block table of the launch memory, flat. -/
abbrev flat (c : Dev nD) : IVec S1024 32 := shapeCast S1024 (m ((c.tc : Thread nD τ).loc main_arg5)) shapeCasts_S8x128_S1024

/-- The inverse table the host computes from it. -/
abbrev inv (c : Dev nD) : IVec S1024 32 :=
  Order.inverse gather_S1024_S1024x1_S1024_n_0_n_n_0_1_1 bcast_S_S1024 bcast_S1024_S1024x1_0 1024#32 (flat m c)

/-- The prefetched table is the inverse table in rows of 128 words. -/
theorem table_eq (c : Dev nD) : V m c main_v9 = shapeCast S8x128 (inv m c) shapeCasts_S1024_S8x128 := by
  show StableHlo.after _ _ _ = _
  simp only [hostOps0, hostOps0_1, hostOps0_2, List.flatten_cons, List.flatten_nil, List.append_nil, List.cons_append, List.nil_append]
  after_results
  rfl

/-- Every word of the prefetched table is below 1024. -/
theorem word_lt (j : S8x128.Idx) : ((tbl m 0 : IVec S8x128 32) j).toNat < 1024 := by
  have h : (tbl m 0 : IVec S8x128 32) = shapeCast S8x128 (inv m 0) shapeCasts_S1024_S8x128 := table_eq m 0
  rw [h]
  exact Order.inverse_lt _ rfl rfl rfl rfl _ _ _ _ (by decide) (by decide) _

/-- The word a block index map reads at grid point `i`. -/
abbrev wordAt (i : grid0.Coords) : BitVec 32 :=
  (tbl m).at 0 (Rect.unit (s := S8x128) (k0_off1 i) S1x1.size (k0_off1_inb i)) numel1_S1x1

/-- The key's block index at a grid point: the table's word there over 64, then zeros. -/
theorem map1_eq (i : grid0.Coords) :
    cc0_transform_1 k0_off1_inb numel1_S1x1 (tbl m) i = ![(wordAt m i).toNat / 64, 0, 0, 0] := by
  have hw : (wordAt m i).toNat < 1024 := word_lt m _
  have hb := Order.block_of_word ⟨(wordAt m i).toNat, hw⟩
  simp only [BitVec.ofNat_toNat, BitVec.setWidth_eq] at hb
  exact congrArg (fun n : Nat => ![n, 0, 0, 0]) hb

/-- The value's block index is the key's. -/
theorem map2_eq (i : grid0.Coords) :
    cc0_transform_2 k0_off1_inb numel1_S1x1 (tbl m) i = ![(wordAt m i).toNat / 64, 0, 0, 0] :=
  map1_eq m i

/-- THE SIDE CONDITION of the prefetched table holds at every memory: each block of 64 lies inside the 1024. -/
theorem ok : Ok m := by
  have hin : ∀ (i : grid0.Coords) a, ((![(wordAt m i).toNat / 64, 0, 0, 0] : Fin 4 → Nat) a + 1) * S64x16x16x128.size a ≤ S1024x16x16x128.size a := by
    intro i a
    have hw : (wordAt m i).toNat < 1024 := word_lt m _
    fin_cases a
    · show ((wordAt m i).toNat / 64 + 1) * 64 ≤ 1024
      omega
    · show (0 + 1) * 16 ≤ 16
      omega
    · show (0 + 1) * 16 ≤ 16
      omega
    · show (0 + 1) * 128 ≤ 128
      omega
  exact ⟨fun i => ⟨fun a => by rw [map1_eq]; exact hin i a, Or.inl rfl⟩,
    fun i => ⟨fun a => by rw [map2_eq]; exact hin i a, Or.inl rfl⟩⟩

end Cert.Proof.KernelIdealTable

end

end
-- ==== Proof.Body.lean ====
/- What one grid point leaves, as the kernel's own operations of what it read.

   A first chunk starts the running maximum, sum and accumulator and takes one step with its blocks; a second chunk takes
   one step from what the first left and stores the accumulator over the sum. -/
module

public import proofs.«01_k».proof.Proof.Gen.KernelIdeal.Frame
public import Idealize.ShloMosaic.Lib.Pipeline.Value

@[expose] public section

noncomputable section

namespace Cert.Proof.Body

open Idealize.ShloMosaic Idealize.SL Cert.KernelIdeal Cert.KernelIdeal.Gen

variable {F : FTy → Type} [FloatOps F] [Named F]

/-- The running maximum after a step: the larger of the old one and the block's row maximum. -/
def stepM (q : Vec F S1x16x128 .f32) (k : Vec F S64x16x16x128 .f32) (mx : Vec F S16x1 .f32) : Vec F S16x1 .f32 :=
  k0_pay10 q k mx

/-- The running sum after a step. -/
def stepL (q : Vec F S1x16x128 .f32) (k : Vec F S64x16x16x128 .f32) (mx l : Vec F S16x1 .f32) : Vec F S16x1 .f32 :=
  k0_pay13 q k mx l

/-- The accumulator after a step. -/
def stepAcc (q : Vec F S1x16x128 .f32) (k v : Vec F S64x16x16x128 .f32) (mx : Vec F S16x1 .f32) (a : Vec F S16x128 .f32) :
    Vec F S16x128 .f32 :=
  k0_pay3 (k0_pay8 (F := F)) (k0_pay11 q k mx) (k0_pay12 q k mx) v a

theorem zero2 : (![0, 0] : Fin 2 → ℕ) = 0 := by decide
theorem zero3 : (![0, 0, 0] : Fin 3 → ℕ) = 0 := by decide
theorem zero4 : (![0, 0, 0, 0] : Fin 4 → ℕ) = 0 := by decide

section
variable (c : Dev nD) (i : grid0.Coords) (arg3 : Memref sig .tc .vmem S1x16x128 .f32) (harg3 : arg3.IsWhole)
  (arg4 : Memref sig .tc .vmem S64x16x16x128 .f32) (harg4 : arg4.IsWhole) (arg5 : Memref sig .tc .vmem S64x16x16x128 .f32) (harg5 : arg5.IsWhole)
  (arg6 : Memref sig .tc .vmem S1x16x128 .f32) (harg6 : arg6.IsWhole) (arg7 : Memref sig .tc .vmem S16x1 .f32) (harg7 : arg7.IsWhole)
  (arg8 : Memref sig .tc .vmem S16x1 .f32) (harg8 : arg8.IsWhole) (arg9 : Memref sig .tc .vmem S16x128 .f32) (harg9 : arg9.IsWhole)

section first
variable (hc0 : cond0_0 i) (hc1 : ¬cond0_1 i) (q : Vec F S1x16x128 .f32) (k v : Vec F S64x16x16x128 .f32) (xt0 : TbBuf0 (F := F) c tbM0_0)

/-- A first chunk leaves the maximum of one step from minus infinity. -/
theorem first_max : sout0_A_0 c i arg3 harg3 arg4 harg4 arg5 harg5 arg6 harg6 arg7 harg7 arg8 harg8 arg9 harg9 hc0 hc1 q k v xt0
    = stepM q k (k0_pay5 (F := F)) := by
  unfold sout0_A_0
  rw [View.read_writes_eq_canon _ _ _ (scover0_A_0 c i arg3 harg3 arg4 harg4 arg5 harg5 arg6 harg6 arg7 harg7 arg8 harg8 arg9 harg9 hc0 hc1 q k v xt0)]
  unfold kernelRun0_A
  dsimp only
  sl_unfold_words
  rw [View.canon_cons_unit_zero (S := S16x1) zero2]
  unfold k0_pay2
  unfold stepM
  simp only [View.readCov_unit_zero (S := S16x1) _ zero2, View.readAt_eq_ld, harg3.read_unread, harg4.read_unread,
    View.ld_unit_zero (S := S1x16x128) zero3, View.ld_unit_zero (S := S64x16x16x128) zero4, shapeCast_self]

/-- A first chunk leaves the sum of one step from zero. -/
theorem first_sum : sout0_A_1 c i arg3 harg3 arg4 harg4 arg5 harg5 arg6 harg6 arg7 harg7 arg8 harg8 arg9 harg9 hc0 hc1 q k v xt0
    = stepL q k (k0_pay5 (F := F)) (k0_pay6 (F := F)) := by
  unfold sout0_A_1
  rw [View.read_writes_eq_canon _ _ _ (scover0_A_1 c i arg3 harg3 arg4 harg4 arg5 harg5 arg6 harg6 arg7 harg7 arg8 harg8 arg9 harg9 hc0 hc1 q k v xt0)]
  unfold kernelRun0_A
  dsimp only
  sl_unfold_words
  rw [View.canon_cons_unit_zero (S := S16x1) zero2]
  unfold k0_pay1
  unfold stepL
  simp only [View.readCov_unit_zero (S := S16x1) _ zero2, View.readAt_eq_ld, harg3.read_unread, harg4.read_unread,
    View.ld_unit_zero (S := S1x16x128) zero3, View.ld_unit_zero (S := S64x16x16x128) zero4, shapeCast_self]

/-- A first chunk leaves the accumulator of one step from zero. -/
theorem first_acc : sout0_A_2 c i arg3 harg3 arg4 harg4 arg5 harg5 arg6 harg6 arg7 harg7 arg8 harg8 arg9 harg9 hc0 hc1 q k v xt0
    = stepAcc q k v (k0_pay5 (F := F)) (k0_pay7 (F := F)) := by
  unfold sout0_A_2
  rw [View.read_writes_eq_canon _ _ _ (scover0_A_2 c i arg3 harg3 arg4 harg4 arg5 harg5 arg6 harg6 arg7 harg7 arg8 harg8 arg9 harg9 hc0 hc1 q k v xt0)]
  unfold kernelRun0_A
  dsimp only
  sl_unfold_words
  rw [View.canon_cons_unit_zero (S := S16x128) zero2]
  unfold stepAcc
  simp only [View.readCov_unit_zero (S := S16x1) _ zero2, View.readCov_unit_zero (S := S16x128) _ zero2, View.readAt_eq_ld,
    harg3.read_unread, harg4.read_unread, harg5.read_unread,
    View.ld_unit_zero (S := S1x16x128) zero3, View.ld_unit_zero (S := S64x16x16x128) zero4, shapeCast_self]

end first

section second
variable (hc0 : ¬cond0_0 i) (hc1 : cond0_1 i) (q : Vec F S1x16x128 .f32) (k v : Vec F S64x16x16x128 .f32) (xt0 : TbBuf0 (F := F) c tbM0_0)
  (mx l : Vec F S16x1 .f32) (a : Vec F S16x128 .f32)

/-- A second chunk stores the accumulator over the sum, both after one step from what the first chunk left. -/
theorem second_out : out0_B_3 c i arg3 harg3 arg4 harg4 arg5 harg5 arg6 harg6 arg7 harg7 arg8 harg8 arg9 harg9 hc0 hc1 q k v xt0 mx l a
    = k0_pay4 (stepAcc q k v mx a) (stepL q k mx l) := by
  unfold out0_B_3
  rw [View.read_writes_eq_canon _ _ _ (cover0_B_3 c i arg3 harg3 arg4 harg4 arg5 harg5 arg6 harg6 arg7 harg7 arg8 harg8 arg9 harg9 hc0 hc1 q k v xt0 mx l a)]
  unfold kernelRun0_B
  dsimp only
  sl_unfold_words
  rw [View.canon_unit_zero (S := S1x16x128) zero3]
  unfold k0_pay1
  unfold stepAcc stepL
  simp only [View.readCov_unit_zero (S := S16x1) _ zero2, View.readCov_unit_zero (S := S16x128) _ zero2, View.readAt_eq_ld,
    harg3.read_unread, harg4.read_unread, harg5.read_unread, harg7.read_unread, harg8.read_unread, harg9.read_unread,
    View.ld_unit_zero (S := S1x16x128) zero3, View.ld_unit_zero (S := S64x16x16x128) zero4,
    View.ld_unit_zero (S := S16x1) zero2, View.ld_unit_zero (S := S16x128) zero2, shapeCast_self]

end second
end
end Cert.Proof.Body

end

end
-- ==== Proof.Output.lean ====
/- What the launch leaves, at a memory whose prefetched table names block `t` at grid point `t`.

   Point `t` of the grid of 16 is chunk `t % 2` of batch `t / 2`: it reads the batch's row of the query, and the 64 pages
   from page `64 t` of the key and of the value. The output's row `b` is what the second chunk of batch `b` stores. -/
module

public import proofs.«01_k».proof.Proof.Body
public import proofs.«01_k».proof.Proof.IdealTable
public import Idealize.ShloMosaic.Lib.Pipeline.ValueKit
public import Idealize.ShloMosaic.Lib.Pipeline.Covers

@[expose] public section

set_option maxRecDepth 16384

noncomputable section

namespace Cert.Proof.Output

open Idealize.ShloMosaic Idealize.SL Cert.KernelIdeal Cert.KernelIdeal.Gen Cert.Proof.Body

variable {F : FTy → Type} [FloatOps F] [Named F]

/-- Batch `b`'s row of the query. -/
abbrev queryRow (x : Vec F S8x16x128 .f32) (b : Fin 8) : Vec F S1x16x128 .f32 :=
  fun j => x (ValueIdx.ix3 b (j 1) (j 2))

/-- The 64 pages from page `64 n`. -/
abbrev pages (x : Vec F S1024x16x16x128 .f32) (n : Fin 16) : Vec F S64x16x16x128 .f32 :=
  fun j => x (ValueIdx.ix4 ⟨64 * n.val + (j 0).val, by have h : (j 0).val < 64 := (j 0).isLt; have := n.isLt; omega⟩ (j 1) (j 2) (j 3))

/-- Chunk `j` of batch `b` is block `2 b + j`. -/
abbrev chunk (b : Fin 8) (j : Fin 2) : Fin 16 := ⟨2 * b.val + j.val, by omega⟩

/-- What one batch's two points make of its query row and its two chunks of keys and values. -/
def twoSteps (q : Vec F S1x16x128 .f32) (k₀ v₀ k₁ v₁ : Vec F S64x16x16x128 .f32) : Vec F S1x16x128 .f32 :=
  k0_pay4
    (stepAcc q k₁ v₁ (stepM q k₀ (k0_pay5 (F := F))) (stepAcc q k₀ v₀ (k0_pay5 (F := F)) (k0_pay7 (F := F))))
    (stepL q k₁ (stepM q k₀ (k0_pay5 (F := F))) (stepL q k₀ (k0_pay5 (F := F)) (k0_pay6 (F := F))))

/-- The launch's output: row `b` is batch `b`'s. -/
abbrev output (q : Vec F S8x16x128 .f32) (k v : Vec F S1024x16x16x128 .f32) : Vec F S8x16x128 .f32 :=
  fun i => twoSteps (queryRow q (i 0)) (pages k (chunk (i 0) 0)) (pages v (chunk (i 0) 0)) (pages k (chunk (i 0) 1)) (pages v (chunk (i 0) 1))
    (ValueIdx.ix3 0 (i 1) (i 2))

variable (m : (ℓ : Loc nD τ sig) → Buf (Elt F) ℓ)

/-- The prefetched table names block `t` at grid point `t`. -/
def Straight : Prop := ∀ t : Fin grid0.N, (KernelIdealTable.wordAt m (grid0.coords t)).toNat / 64 = t.val

theorem coord0 : ∀ t : Fin grid0.N, ((grid0.coords t) 0).val = t.val / 2 := by decide +kernel

/-- A point of the grid is one of 16. -/
theorem point_lt (hO : Ok m) (t : Fin (cfgM m hO).N) : t.val < 16 := lt_of_lt_of_eq t.isLt (show (cfgM m hO).N = 16 from N_0)

theorem map0_eq : ∀ t : Fin grid0.N, cc0_transform_0 (grid0.coords t) = ![t.val / 2, 0, 0] := by decide +kernel
theorem map3_eq : ∀ t : Fin grid0.N, cc0_transform_3 (grid0.coords t) = ![t.val / 2, 0, 0] := by decide +kernel

/-- A point's query block is its batch's row. -/
theorem query_block (hO : Ok m) (c : Dev nD) (t : Fin (cfgM m hO).N) :
    iblk m hO c 0 t = queryRow (V m c main_v12) ⟨t.val / 2, by have := point_lt m hO t; omega⟩ := by
  refine funext fun (j : S1x16x128.Idx) => ?_
  refine congrArg (V m c main_v12) (funext fun a => Fin.ext ?_)
  have hix : ((cfgM m hO).win 0).index t = ![t.val / 2, 0, 0] := map0_eq t
  refine (((cfgM m hO).win 0).rect_emb_val t j a).trans ?_
  rw [hix]
  have h0 : (j 0).val < 1 := (j 0).isLt
  fin_cases a
  · show t.val / 2 * 1 + (j 0).val = t.val / 2
    omega
  · show 0 * 16 + (j 1).val = (j 1).val
    omega
  · show 0 * 128 + (j 2).val = (j 2).val
    omega

theorem index1_at (a : (pcfg0 (F := F)).Adm) (t : Fin grid0.N) :
    ((cfg0 a).win 1).index t = cc0_transform_1 k0_off1_inb numel1_S1x1 a.1 (grid0.coords t) := by rfl
theorem index2_at (a : (pcfg0 (F := F)).Adm) (t : Fin grid0.N) :
    ((cfg0 a).win 2).index t = cc0_transform_2 k0_off1_inb numel1_S1x1 a.1 (grid0.coords t) := by rfl
theorem index3_at (a : (pcfg0 (F := F)).Adm) (t : Fin grid0.N) :
    ((cfg0 a).win 3).index t = cc0_transform_3 (grid0.coords t) := by rfl

theorem map1_straight (hs : Straight m) (t : Fin grid0.N) :
    cc0_transform_1 k0_off1_inb numel1_S1x1 (tbl m) (grid0.coords t) = ![t.val, 0, 0, 0] := by
  rw [KernelIdealTable.map1_eq, hs t]
theorem map2_straight (hs : Straight m) (t : Fin grid0.N) :
    cc0_transform_2 k0_off1_inb numel1_S1x1 (tbl m) (grid0.coords t) = ![t.val, 0, 0, 0] := by
  rw [KernelIdealTable.map2_eq, hs t]

/-- A point's key block is 64 pages of the key. -/
theorem key_block (hO : Ok m) (hs : Straight m) (c : Dev nD) (t : Fin (cfgM m hO).N) :
    iblk m hO c 1 t = pages (V m c main_v10) ⟨t.val, point_lt m hO t⟩ := by
  refine funext fun (j : S64x16x16x128.Idx) => ?_
  refine congrArg (V m c main_v10) (funext fun a => Fin.ext ?_)
  have hix := (index1_at (adm m hO) t).trans (map1_straight m hs t)
  refine (((cfgM m hO).win 1).rect_emb_val t j a).trans ?_
  rw [hix]
  fin_cases a
  · show t.val * 64 + (j 0).val = 64 * t.val + (j 0).val
    omega
  · show 0 * 16 + (j 1).val = (j 1).val
    omega
  · show 0 * 16 + (j 2).val = (j 2).val
    omega
  · show 0 * 128 + (j 3).val = (j 3).val
    omega

/-- A point's value block is 64 pages of the value. -/
theorem value_block (hO : Ok m) (hs : Straight m) (c : Dev nD) (t : Fin (cfgM m hO).N) :
    iblk m hO c 2 t = pages (V m c main_v11) ⟨t.val, point_lt m hO t⟩ := by
  refine funext fun (j : S64x16x16x128.Idx) => ?_
  refine congrArg (V m c main_v11) (funext fun a => Fin.ext ?_)
  have hix := (index2_at (adm m hO) t).trans (map2_straight m hs t)
  refine (((cfgM m hO).win 2).rect_emb_val t j a).trans ?_
  rw [hix]
  fin_cases a
  · show t.val * 64 + (j 0).val = 64 * t.val + (j 0).val
    omega
  · show 0 * 16 + (j 1).val = (j 1).val
    omega
  · show 0 * 16 + (j 2).val = (j 2).val
    omega
  · show 0 * 128 + (j 3).val = (j 3).val
    omega

/-- The running maximum after a batch's first point. -/
theorem outs_max (hO : Ok m) (c : Dev nD) (t : Fin (cfgM m hO).N) (h0 : t.val % 2 = 0) (h1 : ¬t.val % 2 = 1) :
    (outsAt0 m hO c t.val t.isLt).2.1 = stepM (iblk m hO c 0 t) (iblk m hO c 1 t) (k0_pay5 (F := F)) := by
  rw [outsAt0_A m hO c t h0 h1]
  exact first_max c (grid0.coords t) (ms0_0 m hO t) (hs0_0 m hO t) (ms0_1 m hO t) (hs0_1 m hO t) (ms0_2 m hO t) (hs0_2 m hO t)
    (ms0_3 m hO t) (hs0_3 m hO t) scM0_0 (Memref.isWhole_whole _) scM0_1 (Memref.isWhole_whole _) scM0_2 (Memref.isWhole_whole _)
    ((hcond0_0 t).mpr h0) (fun h => h1 ((hcond0_1 t).mp h)) (iblk m hO c 0 t) (iblk m hO c 1 t) (iblk m hO c 2 t) (tbl m 0)

/-- The running sum after a batch's first point. -/
theorem outs_sum (hO : Ok m) (c : Dev nD) (t : Fin (cfgM m hO).N) (h0 : t.val % 2 = 0) (h1 : ¬t.val % 2 = 1) :
    (outsAt0 m hO c t.val t.isLt).2.2.1 = stepL (iblk m hO c 0 t) (iblk m hO c 1 t) (k0_pay5 (F := F)) (k0_pay6 (F := F)) := by
  rw [outsAt0_A m hO c t h0 h1]
  exact first_sum c (grid0.coords t) (ms0_0 m hO t) (hs0_0 m hO t) (ms0_1 m hO t) (hs0_1 m hO t) (ms0_2 m hO t) (hs0_2 m hO t)
    (ms0_3 m hO t) (hs0_3 m hO t) scM0_0 (Memref.isWhole_whole _) scM0_1 (Memref.isWhole_whole _) scM0_2 (Memref.isWhole_whole _)
    ((hcond0_0 t).mpr h0) (fun h => h1 ((hcond0_1 t).mp h)) (iblk m hO c 0 t) (iblk m hO c 1 t) (iblk m hO c 2 t) (tbl m 0)

/-- The accumulator after a batch's first point. -/
theorem outs_acc (hO : Ok m) (c : Dev nD) (t : Fin (cfgM m hO).N) (h0 : t.val % 2 = 0) (h1 : ¬t.val % 2 = 1) :
    (outsAt0 m hO c t.val t.isLt).2.2.2
      = stepAcc (iblk m hO c 0 t) (iblk m hO c 1 t) (iblk m hO c 2 t) (k0_pay5 (F := F)) (k0_pay7 (F := F)) := by
  rw [outsAt0_A m hO c t h0 h1]
  exact first_acc c (grid0.coords t) (ms0_0 m hO t) (hs0_0 m hO t) (ms0_1 m hO t) (hs0_1 m hO t) (ms0_2 m hO t) (hs0_2 m hO t)
    (ms0_3 m hO t) (hs0_3 m hO t) scM0_0 (Memref.isWhole_whole _) scM0_1 (Memref.isWhole_whole _) scM0_2 (Memref.isWhole_whole _)
    ((hcond0_0 t).mpr h0) (fun h => h1 ((hcond0_1 t).mp h)) (iblk m hO c 0 t) (iblk m hO c 1 t) (iblk m hO c 2 t) (tbl m 0)

/-- What a batch's second point stores, from what its first left. -/
theorem outs_out (hO : Ok m) (c : Dev nD) (t : Fin (cfgM m hO).N) (h0 : ¬t.val % 2 = 0) (h1 : t.val % 2 = 1)
    (hp : t.val - 1 < (cfgM m hO).N) :
    (outsAt0 m hO c t.val t.isLt).1
      = k0_pay4 (stepAcc (iblk m hO c 0 t) (iblk m hO c 1 t) (iblk m hO c 2 t) (outsAt0 m hO c (t.val - 1) hp).2.1 (outsAt0 m hO c (t.val - 1) hp).2.2.2)
        (stepL (iblk m hO c 0 t) (iblk m hO c 1 t) (outsAt0 m hO c (t.val - 1) hp).2.1 (outsAt0 m hO c (t.val - 1) hp).2.2.1) := by
  rw [outsAt0_B m hO c t h0 h1]
  exact second_out c (grid0.coords t) (ms0_0 m hO t) (hs0_0 m hO t) (ms0_1 m hO t) (hs0_1 m hO t) (ms0_2 m hO t) (hs0_2 m hO t)
    (ms0_3 m hO t) (hs0_3 m hO t) scM0_0 (Memref.isWhole_whole _) scM0_1 (Memref.isWhole_whole _) scM0_2 (Memref.isWhole_whole _)
    (fun h => h0 ((hcond0_0 t).mp h)) ((hcond0_1 t).mpr h1) (iblk m hO c 0 t) (iblk m hO c 1 t) (iblk m hO c 2 t) (tbl m 0) _ _ _

/-- What the second point of a batch stores. -/
theorem outs_second (hO : Ok m) (hs : Straight m) (c : Dev nD) (t : Fin (cfgM m hO).N) (b : Fin 8) (ht : t.val = 2 * b.val + 1) :
    (outsAt0 m hO c t.val t.isLt).1 = twoSteps (queryRow (V m c main_v12) b) (pages (V m c main_v10) (chunk b 0))
      (pages (V m c main_v11) (chunk b 0)) (pages (V m c main_v10) (chunk b 1)) (pages (V m c main_v11) (chunk b 1)) := by
  have hlt : t.val - 1 < (cfgM m hO).N := by have := t.isLt; omega
  have e₀ : (t.val - 1) % 2 = 0 := by omega
  have e₁ : ¬(t.val - 1) % 2 = 1 := by omega
  have hM := outs_max m hO c ⟨t.val - 1, hlt⟩ e₀ e₁
  have hL := outs_sum m hO c ⟨t.val - 1, hlt⟩ e₀ e₁
  have hA := outs_acc m hO c ⟨t.val - 1, hlt⟩ e₀ e₁
  dsimp only at hM hL hA
  rw [outs_out m hO c t (by omega) (by omega) hlt, hM, hL, hA]
  have hq₁ : iblk m hO c 0 t = queryRow (V m c main_v12) b :=
    (query_block m hO c t).trans (congrArg (queryRow (V m c main_v12)) (Fin.ext (by show t.val / 2 = b.val; omega)))
  have hk₁ : iblk m hO c 1 t = pages (V m c main_v10) (chunk b 1) :=
    (key_block m hO hs c t).trans (congrArg (pages (V m c main_v10)) (Fin.ext ht))
  have hv₁ : iblk m hO c 2 t = pages (V m c main_v11) (chunk b 1) :=
    (value_block m hO hs c t).trans (congrArg (pages (V m c main_v11)) (Fin.ext ht))
  have hq₀ : iblk m hO c 0 ⟨t.val - 1, hlt⟩ = queryRow (V m c main_v12) b :=
    (query_block m hO c _).trans (congrArg (queryRow (V m c main_v12)) (Fin.ext (by show (t.val - 1) / 2 = b.val; omega)))
  have hk₀ : iblk m hO c 1 ⟨t.val - 1, hlt⟩ = pages (V m c main_v10) (chunk b 0) :=
    (key_block m hO hs c _).trans (congrArg (pages (V m c main_v10)) (Fin.ext (by show t.val - 1 = 2 * b.val + 0; omega)))
  have hv₀ : iblk m hO c 2 ⟨t.val - 1, hlt⟩ = pages (V m c main_v11) (chunk b 0) :=
    (value_block m hO hs c _).trans (congrArg (pages (V m c main_v11)) (Fin.ext (by show t.val - 1 = 2 * b.val + 0; omega)))
  rw [hq₀, hk₀, hv₀, hq₁, hk₁, hv₁]
  rfl

/-- Every row of the output is in some batch's block. -/
theorem covers3 (a : (pcfg0 (F := F)).Adm) : ((cfg0 a).win 3).Covers := by
  refine ((cfg0 a).win 3).covers_of_index_surj rfl (by show ∀ a : Fin 3, 0 < S1x16x128.size a; decide) fun β => ?_
  have key : ∀ x : Fin 8, ∃ t : Fin grid0.N, cc0_transform_3 (grid0.coords t) = ![x.val, 0, 0] := by decide +kernel
  obtain ⟨t, ht⟩ := key ⟨(β (0 : Fin 3)).val, lt_of_lt_of_eq (β (0 : Fin 3)).isLt (by show (8 + 1 - 1) / 1 = 8; decide)⟩
  refine ⟨t, fun (d : Fin 3) => ?_⟩
  rw [index3_at a t, ht]
  have h1 : (β (1 : Fin 3)).val < 1 := lt_of_lt_of_eq (β (1 : Fin 3)).isLt (by show (16 + 16 - 1) / 16 = 1; decide)
  have h2 : (β (2 : Fin 3)).val < 1 := lt_of_lt_of_eq (β (2 : Fin 3)).isLt (by show (128 + 128 - 1) / 128 = 1; decide)
  fin_cases d
  · rfl
  · show 0 = (β (1 : Fin 3)).val
    omega
  · show 0 = (β (2 : Fin 3)).val
    omega

/-- The launch's output array. -/
theorem out_array (hO : Ok m) (hs : Straight m) (c : Dev nD) :
    (dats m hO 0 c).arrAt 3 (cfgM m hO).N = output (V m c main_v12) (V m c main_v10) (V m c main_v11) := by
  refine (dats m hO 0 c).arrAt_eq_of_covers 3 _ (covers3 (adm m hO)) fun t hf y => ?_
  have h1 : t.val % 2 = 1 := (flush0_3 (adm m hO) t).mp hf
  have hlt := point_lt m hO t
  rw [after0_3, outs_second m hO hs c t ⟨t.val / 2, by omega⟩ (by show t.val = 2 * (t.val / 2) + 1; omega)]
  have hix := (index3_at (adm m hO) t).trans (map3_eq t)
  revert y
  intro (y : S1x16x128.Idx)
  have h0 : (y 0).val < 1 := (y 0).isLt
  have e : (((cfgM m hO).win 3).blk t).view.emb y = ValueIdx.ix3 (⟨t.val / 2, by omega⟩ : Fin 8) (y 1) (y 2) := by
    refine funext fun a => Fin.ext ?_
    refine (((cfgM m hO).win 3).rect_emb_val t y a).trans ?_
    rw [hix]
    fin_cases a
    · show t.val / 2 * 1 + (y 0).val = t.val / 2
      omega
    · show 0 * 16 + (y 1).val = (y 1).val
      omega
    · show 0 * 128 + (y 2).val = (y 2).val
      omega
  rw [e]
  refine congrArg (twoSteps _ _ _ _ _) (funext fun a => Fin.ext ?_)
  fin_cases a
  · show (y 0).val = 0
    omega
  · rfl
  · rfl

end Cert.Proof.Output

end

end
-- ==== Proof.KernelRun.lean ====
/- The kernel's run, at a memory whose prefetched table names block `t` at grid point `t`: the result buffer ends at the
   batches' attention of the query, key and value argument arrays, and every argument array ends unchanged. -/
module

public import proofs.«01_k».proof.Proof.Output

@[expose] public section

set_option maxRecDepth 16384

noncomputable section

namespace Cert.Proof.KernelRun

open Idealize.ShloMosaic Idealize.ShloMosaic.StableHlo Idealize.SL Idealize.SL.Sem Cert.KernelIdeal Cert.KernelIdeal.Gen Cert.Proof.Output

variable {F : FTy → Type} [FloatOps F] [Named F]

/-- The result as a function of the query, key and value argument arrays. -/
abbrev result (q : Vec F S8x1x16x128 .f32) (k v : Vec F S8x2048x16x128 .f32) : Vec F S8x1x16x128 .f32 :=
  shapeCast S8x1x16x128
    (output (shapeCast S8x16x128 q shapeCasts_S8x1x16x128_S8x16x128) (shapeCast S1024x16x16x128 k shapeCasts_S8x2048x16x128_S1024x16x16x128)
      (shapeCast S1024x16x16x128 v shapeCasts_S8x2048x16x128_S1024x16x16x128))
    shapeCasts_S8x16x128_S8x1x16x128

variable (m : (ℓ : Loc nD τ sig) → Buf (Elt F) ℓ)

/-- The launch's query operand is the query argument without its axis of one. -/
theorem entry_query (c : Dev nD) : V m c main_v12
    = shapeCast S8x16x128 (m ((c.tc : Thread nD τ).loc main_arg0)) shapeCasts_S8x1x16x128_S8x16x128 := by
  show StableHlo.after _ _ _ = _
  simp only [hostOps0, hostOps0_1, hostOps0_2, List.flatten_cons, List.flatten_nil, List.append_nil, List.cons_append, List.nil_append]
  after_results
  try rfl

/-- The launch's key operand is the key argument in pages of 16 tokens. -/
theorem entry_key (c : Dev nD) : V m c main_v10
    = shapeCast S1024x16x16x128 (m ((c.tc : Thread nD τ).loc main_arg1)) shapeCasts_S8x2048x16x128_S1024x16x16x128 := by
  show StableHlo.after _ _ _ = _
  simp only [hostOps0, hostOps0_1, hostOps0_2, List.flatten_cons, List.flatten_nil, List.append_nil, List.cons_append, List.nil_append]
  after_results
  try rfl

/-- The launch's value operand is the value argument in pages of 16 tokens. -/
theorem entry_value (c : Dev nD) : V m c main_v11
    = shapeCast S1024x16x16x128 (m ((c.tc : Thread nD τ).loc main_arg2)) shapeCasts_S8x2048x16x128_S1024x16x16x128 := by
  show StableHlo.after _ _ _ = _
  simp only [hostOps0, hostOps0_1, hostOps0_2, List.flatten_cons, List.flatten_nil, List.append_nil, List.cons_append, List.nil_append]
  after_results
  try rfl

/-- What the lines after the launch leave in the result buffer. -/
theorem exit_result (hO : Ok m) (hs : Straight m) (c : Dev nD) :
    Pipeline.afterTail pcfgs (fun _ => adm m hO) (dats m hO) 0 (V0 m) [hostOps1] c main_v14
      = result (m ((c.tc : Thread nD τ).loc main_arg0)) (m ((c.tc : Thread nD τ).loc main_arg1)) (m ((c.tc : Thread nD τ).loc main_arg2)) := by
  unfold result
  rw [← entry_query, ← entry_key, ← entry_value, ← out_array m hO hs c]
  unfold Pipeline.afterTail
  simp only [hostOps1, List.flatten_cons, List.flatten_nil, List.append_nil]
  after_results
  have e := Pipeline.withArrays_arr (Pipeline.pin pcfgs (fun _ => adm m hO) 0).spec winFacts0.arr_inj c (V0 m c)
    (fun w => (dats m hO 0 c).arrAt w (Pipeline.pin pcfgs (fun _ => adm m hO) 0).N) 3
  exact congrArg (fun x => shapeCast S8x1x16x128 x shapeCasts_S8x16x128_S8x1x16x128) e

/-- THE RUN: every weakly fair execution ends with the result buffer at `result` and every argument array unchanged. -/
theorem run (ρ : Dev nD → PrngReg) (hO : Ok m) (hs : Straight m) :
    θ_run defs (onTc (τ := τ) (main (F := F))) ⟨m, fun _ => 0, ρ⟩ (fun r => ∀ c : Dev nD,
      r.2.mem ((c.tc : Thread nD τ).loc main_v14)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun _ h c => ⟨((h.1 c).2 main_v14 (by decide : main_v14 ∈ Pipeline.restRefs sig spec0)).trans (exit_result m hO hs c), h.2 c⟩)
    (θ_run_and (run_main m ρ hO) (unchanged m ρ hO))

end Cert.Proof.KernelRun

end

end
-- ==== Proof.Softmax.lean ====
module

public import Idealize.ShloMosaic.PureOps.Ideal
public import Idealize.ShloMosaic.PureOps.Ideal.Laws

@[expose] public section

noncomputable section

/-! The softmax average over extended reals: real scores, values that may be infinite. Subtracting any real number from
every score changes nothing, so one pass with the overall maximum and two passes with running maxima agree. -/

namespace Cert.Proof.Softmax

open Idealize.ShloMosaic

variable {ι : Type} [Fintype ι]

/-- A real factor that is not negative moves inside a sum of extended reals. -/
theorem coe_mul_sum {c : ℝ} (hc : 0 ≤ c) (f : ι → EReal) : (c : EReal) * ∑ i, f i = ∑ i, (c : EReal) * f i := by
  classical
  induction (Finset.univ : Finset ι) using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The sum of real numbers, taken among the extended reals. -/
theorem sum_coe (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

/-- The largest of finitely many real numbers, at least one, is a real number. -/
theorem fold_max_real [Nonempty ι] (f : ι → ℝ) :
    ∃ M : ℝ, Finset.univ.fold max (⊥ : EReal) (fun i => (f i : EReal)) = (M : EReal) := by
  classical
  have key : ∀ s : Finset ι, (s.fold max (⊥ : EReal) (fun i => (f i : EReal)) = ⊥ ∧ s = ∅) ∨
      ∃ M : ℝ, s.fold max (⊥ : EReal) (fun i => (f i : EReal)) = (M : EReal) := by
    intro s
    induction s using Finset.induction_on with
    | empty => exact Or.inl ⟨Finset.fold_empty, rfl⟩
    | insert a s ha ih =>
      refine Or.inr ?_
      rw [Finset.fold_insert ha]
      rcases ih with ⟨h, -⟩ | ⟨M, h⟩
      · exact ⟨f a, by rw [h]; simp⟩
      · exact ⟨max (f a) M, by rw [h]; exact (EReal.coe_strictMono.monotone.map_max).symm⟩
  rcases key Finset.univ with ⟨-, h⟩ | h
  · exact absurd h (Finset.univ_nonempty.ne_empty)
  · exact h

/-- The softmax average of the values `v` at the scores `s`. -/
def attend (s : ι → ℝ) (v : ι → EReal) : EReal :=
  (∑ i, (Real.exp (s i) : EReal) * v i) * (((∑ i, Real.exp (s i))⁻¹ : ℝ) : EReal)

/-- Renaming the positions does not change the average. -/
theorem attend_equiv {κ : Type} [Fintype κ] (e : κ ≃ ι) (s : ι → ℝ) (v : ι → EReal) :
    attend (fun k => s (e k)) (fun k => v (e k)) = attend s v := by
  unfold attend
  rw [Equiv.sum_comp e (fun i => (Real.exp (s i) : EReal) * v i), Equiv.sum_comp e (fun i => Real.exp (s i))]

/-- The exponential of a difference of real numbers. -/
theorem exp_sub (a b : ℝ) : Ideal.exp ((a : EReal) - (b : EReal)) = ((Real.exp a * (Real.exp b)⁻¹ : ℝ) : EReal) := by
  rw [← EReal.coe_sub, ← Real.exp_neg, ← Real.exp_add, ← sub_eq_add_neg]
  rfl

/-- The exponential of minus infinity less a real number is zero. -/
theorem exp_bot_sub (b : ℝ) : Ideal.exp ((⊥ : EReal) - (b : EReal)) = 0 := by
  rw [EReal.bot_sub]
  rfl

/-- Division by a real number that is not zero multiplies by its inverse. -/
theorem div_coe (x : EReal) {l : ℝ} (hl : l ≠ 0) : Ideal.div x (l : EReal) = x * ((l⁻¹ : ℝ) : EReal) := by
  unfold Ideal.div
  rw [if_neg (by exact_mod_cast hl), EReal.coe_inv]

theorem sum_exp_pos [Nonempty ι] (s : ι → ℝ) : 0 < ∑ i, Real.exp (s i) :=
  Finset.sum_pos (fun i _ => Real.exp_pos _) Finset.univ_nonempty

/-- Taking the common factor out of weights `exp (s i) * c`. -/
theorem sum_scaled {c : ℝ} (hc : 0 ≤ c) (s : ι → ℝ) (v : ι → EReal) :
    ∑ i, ((Real.exp (s i) * c : ℝ) : EReal) * v i = (c : EReal) * ∑ i, (Real.exp (s i) : EReal) * v i := by
  rw [coe_mul_sum hc]
  refine Finset.sum_congr rfl fun i _ => ?_
  rw [mul_comm (Real.exp (s i)) c, EReal.coe_mul, mul_assoc]

theorem sum_scaled_one (c : ℝ) (s : ι → ℝ) :
    ∑ i, ((Real.exp (s i) * c : ℝ) : EReal) = ((c * ∑ i, Real.exp (s i) : ℝ) : EReal) := by
  rw [sum_coe, Finset.mul_sum]
  congr 1
  exact Finset.sum_congr rfl fun i _ => mul_comm _ _

/-- One pass: every weight divided by the sum of the weights, then the weighted sum of the values. -/
theorem one_pass [Nonempty ι] (s : ι → ℝ) (v : ι → EReal) (M : ℝ) :
    ∑ i, Ideal.div (Ideal.exp ((s i : EReal) - (M : EReal))) (0 + ∑ k, Ideal.exp ((s k : EReal) - (M : EReal))) * v i
      = attend s v := by
  have hc : (0 : ℝ) < (Real.exp M)⁻¹ := inv_pos.mpr (Real.exp_pos M)
  have hZ := sum_exp_pos s
  simp only [exp_sub, zero_add]
  rw [sum_scaled_one]
  have hl : (Real.exp M)⁻¹ * ∑ i, Real.exp (s i) ≠ 0 := (mul_pos hc hZ).ne'
  have hw : ∀ i, Ideal.div ((Real.exp (s i) * (Real.exp M)⁻¹ : ℝ) : EReal)
      (((Real.exp M)⁻¹ * ∑ i, Real.exp (s i) : ℝ) : EReal)
      = ((Real.exp (s i) * (∑ i, Real.exp (s i))⁻¹ : ℝ) : EReal) := by
    intro i
    rw [div_coe _ hl, ← EReal.coe_mul]
    congr 1
    have := (Real.exp_pos M).ne'
    have := hZ.ne'
    field_simp
  simp only [hw]
  rw [sum_scaled (inv_pos.mpr hZ).le, mul_comm]
  rfl

/-- Two passes with running maxima `M₀`, then `M`: the sums of the first pass are scaled by `exp (M₀ - M)` before
those of the second are added, and the quotient is taken at the end. -/
theorem two_pass [Nonempty ι] (s₀ s₁ : ι → ℝ) (v₀ v₁ : ι → EReal) (M₀ M : ℝ) :
    Ideal.div
      ((0 * Ideal.exp ((⊥ : EReal) - (M₀ : EReal)) + ∑ i, Ideal.exp ((s₀ i : EReal) - (M₀ : EReal)) * v₀ i)
          * Ideal.exp ((M₀ : EReal) - (M : EReal)) + ∑ i, Ideal.exp ((s₁ i : EReal) - (M : EReal)) * v₁ i)
      ((0 * Ideal.exp ((⊥ : EReal) - (M₀ : EReal)) + ∑ i, Ideal.exp ((s₀ i : EReal) - (M₀ : EReal)))
          * Ideal.exp ((M₀ : EReal) - (M : EReal)) + ∑ i, Ideal.exp ((s₁ i : EReal) - (M : EReal)))
      = attend (Sum.elim s₀ s₁) (Sum.elim v₀ v₁) := by
  have hc : (0 : ℝ) < (Real.exp M)⁻¹ := inv_pos.mpr (Real.exp_pos M)
  have hc₀ : (0 : ℝ) < (Real.exp M₀)⁻¹ := inv_pos.mpr (Real.exp_pos M₀)
  have hs : (Real.exp M₀)⁻¹ * (Real.exp M₀ * (Real.exp M)⁻¹) = (Real.exp M)⁻¹ := by
    rw [← mul_assoc, inv_mul_cancel₀ (Real.exp_pos M₀).ne', one_mul]
  have hZ₀ := sum_exp_pos s₀
  have hZ₁ := sum_exp_pos s₁
  simp only [exp_sub, zero_mul, zero_add]
  rw [sum_scaled hc₀.le, sum_scaled hc.le, sum_scaled_one, sum_scaled_one]
  rw [mul_right_comm, ← EReal.coe_mul, ← EReal.coe_mul, ← EReal.coe_add, hs,
    ← EReal.left_distrib_of_nonneg_of_ne_top (EReal.coe_nonneg.mpr hc.le) (EReal.coe_ne_top _)]
  have hl : (Real.exp M₀)⁻¹ * (∑ i, Real.exp (s₀ i)) * (Real.exp M₀ * (Real.exp M)⁻¹)
      + (Real.exp M)⁻¹ * ∑ i, Real.exp (s₁ i)
      = (Real.exp M)⁻¹ * ((∑ i, Real.exp (s₀ i)) + ∑ i, Real.exp (s₁ i)) := by
    rw [mul_right_comm, hs, mul_add]
  rw [hl, div_coe _ (mul_pos hc (add_pos hZ₀ hZ₁)).ne', mul_comm (((Real.exp M)⁻¹ : ℝ) : EReal), mul_assoc,
    ← EReal.coe_mul, mul_inv, ← mul_assoc, mul_inv_cancel₀ hc.ne', one_mul]
  unfold attend
  rw [Fintype.sum_sum_type, Fintype.sum_sum_type]
  rfl

end Cert.Proof.Softmax

end
-- ==== Proof.Scores.lean ====
/- What one batch's two grid points compute, read at a head and a lane, over the extended reals.

   The product of all heads with all heads is masked to its diagonal, so a score is one head's own dot product and the
   accumulator takes one head's own values. When the scores are real numbers the two steps leave the softmax average of
   the 2048 values. -/
module

public import proofs.«01_k».proof.Proof.Output
public import proofs.«01_k».proof.Proof.Softmax
public import Idealize.ShloMosaic.Lib.Pointwise

@[expose] public section

noncomputable section

namespace Cert.Proof.Scores

open Idealize.ShloMosaic Cert.KernelIdeal Cert.KernelIdeal.Gen Cert.Proof.Body Cert.Proof.Output Cert.Proof.Softmax

/-- The mask is the identity matrix. -/
theorem eye_at (a b : Fin 16) : k0_pay8 (F := Ideal) (ix2 a b) = if a = b then 1 else 0 := by
  pointwise [k0_pay8]
  have key : ∀ a b : Fin 16, (BitVec.setWidth 32 (IntOp.cmpi CmpIPredicate.eq (BitVec.ofNat 32 a.val) (BitVec.ofNat 32 b.val))).toInt
      = if a = b then 1 else 0 := by decide
  show (((BitVec.setWidth 32 (IntOp.cmpi CmpIPredicate.eq (BitVec.ofNat 32 a.val) (BitVec.ofNat 32 b.val))).toInt : ℝ) : EReal) = _
  rw [key a b]
  split_ifs <;> simp

/-- A sum against a row of the mask is the diagonal term. -/
theorem sum_eye (f : Fin 16 → EReal) (h : Fin 16) : ∑ x, f x * k0_pay8 (F := Ideal) (ix2 h x) = f h := by
  simp only [eye_at, mul_ite, mul_one, mul_zero]
  exact (Finset.sum_ite_eq Finset.univ h f).trans (if_pos (Finset.mem_univ h))

/-- Token `r` of a chunk of 64 pages is place `r % 16` of page `r / 16`. -/
abbrev tokenAt (x : Vec Ideal S64x16x16x128 .f32) (r : Fin 1024) (h : Fin 16) (d : Fin 128) : EReal :=
  x (ix4 ⟨r.val / 16, by have := r.isLt; omega⟩ ⟨r.val % 16, by omega⟩ h d)

/-- The scale at the ideal values: one over the square root of 128. -/
abbrev scale : ℝ := (Real.sqrt 128)⁻¹

/-- A score: the dot product of one head of token `r`'s key with the scaled query. -/
theorem score_at (q : Vec Ideal S1x16x128 .f32) (k : Vec Ideal S64x16x16x128 .f32) (h : Fin 16) (r : Fin 1024) :
    k0_pay9 q k (ix2 h r) = ∑ d : Fin 128, tokenAt k r h d * (q (ix3 0 h d) * (scale : EReal)) := by
  pointwise [k0_pay9]
  refine (sum_eye _ h).trans ?_
  refine Finset.sum_congr rfl fun d _ => congrArg₂ (· * ·) (congrArg k ?_) rfl
  have hr := r.isLt
  have hh := h.isLt
  congr 1 <;> apply Fin.ext <;> dsimp only <;> omega

/-- The running maximum of one head after a step. -/
theorem stepM_at (q : Vec Ideal S1x16x128 .f32) (k : Vec Ideal S64x16x16x128 .f32) (mx : Vec Ideal S16x1 .f32) (h : Fin 16) :
    stepM q k mx (ix2 h 0)
      = max (mx (ix2 h 0)) (Finset.univ.fold max (⊥ : EReal) (fun r : Fin 1024 => k0_pay9 q k (ix2 h r))) := by
  pointwise [stepM, k0_pay10]
  have hb : Ideal.ofBits FTy.f32 4286578688#32 = ⊥ := by simp [Ideal.ofBits, Ideal.ieee]
  rw [hb]

/-- The running sum of one head after a step. -/
theorem stepL_at (q : Vec Ideal S1x16x128 .f32) (k : Vec Ideal S64x16x16x128 .f32) (mx l : Vec Ideal S16x1 .f32) (h : Fin 16) :
    stepL q k mx l (ix2 h 0)
      = l (ix2 h 0) * Ideal.exp (mx (ix2 h 0) - stepM q k mx (ix2 h 0))
        + ∑ r : Fin 1024, Ideal.exp (k0_pay9 q k (ix2 h r) - stepM q k mx (ix2 h 0)) := by
  pointwise [stepL, stepM, k0_pay13, k0_pay11, k0_pay12]

/-- The accumulator of one head and lane after a step. -/
theorem stepAcc_at (q : Vec Ideal S1x16x128 .f32) (k v : Vec Ideal S64x16x16x128 .f32) (mx : Vec Ideal S16x1 .f32)
    (a : Vec Ideal S16x128 .f32) (h : Fin 16) (d : Fin 128) :
    stepAcc q k v mx a (ix2 h d)
      = a (ix2 h d) * Ideal.exp (mx (ix2 h 0) - stepM q k mx (ix2 h 0))
        + ∑ r : Fin 1024, Ideal.exp (k0_pay9 q k (ix2 h r) - stepM q k mx (ix2 h 0)) * tokenAt v r h d := by
  pointwise [stepAcc, stepM, k0_pay3, k0_pay11, k0_pay12]
  rw [sum_eye (fun x => ∑ r : Fin 1024, Ideal.exp (k0_pay9 q k (ix2 h r) - k0_pay10 q k mx (ix2 h 0)) *
    v (ix4 ⟨r.val / 16, _⟩ ⟨r.val % 16, _⟩ x d)) h]

/-- The output of one head and lane: the accumulator over the sum. -/
theorem quotient_at (a : Vec Ideal S16x128 .f32) (l : Vec Ideal S16x1 .f32) (h : Fin 16) (d : Fin 128) :
    k0_pay4 a l (ix3 0 h d) = Ideal.div (a (ix2 h d)) (l (ix2 h 0)) := by
  pointwise [k0_pay4]

theorem start_max (h : Fin 16) : k0_pay5 (F := Ideal) (ix2 h 0) = ⊥ := by
  pointwise [k0_pay5]
  simp [Ideal.ofBits, Ideal.ieee]

theorem start_sum (h : Fin 16) : k0_pay6 (F := Ideal) (ix2 h 0) = 0 := by
  pointwise [k0_pay6]

theorem start_acc (h : Fin 16) (d : Fin 128) : k0_pay7 (F := Ideal) (ix2 h d) = 0 := by
  pointwise [k0_pay7]

/-- The two steps of a batch, where both chunks' scores are real numbers, leave the softmax average of the values. -/
theorem twoSteps_at (q : Vec Ideal S1x16x128 .f32) (k₀ v₀ k₁ v₁ : Vec Ideal S64x16x16x128 .f32) (h : Fin 16) (d : Fin 128)
    (s₀ s₁ : Fin 1024 → ℝ) (h₀ : ∀ r, k0_pay9 q k₀ (ix2 h r) = (s₀ r : EReal)) (h₁ : ∀ r, k0_pay9 q k₁ (ix2 h r) = (s₁ r : EReal)) :
    twoSteps q k₀ v₀ k₁ v₁ (ix3 0 h d)
      = attend (Sum.elim s₀ s₁) (Sum.elim (fun r => tokenAt v₀ r h d) (fun r => tokenAt v₁ r h d)) := by
  obtain ⟨M₀, hM₀⟩ := fold_max_real s₀
  obtain ⟨M₁, hM₁⟩ := fold_max_real s₁
  have hm₀ : stepM q k₀ (k0_pay5 (F := Ideal)) (ix2 h 0) = (M₀ : EReal) := by
    rw [stepM_at, start_max]
    simp only [h₀]
    rw [hM₀]
    exact max_eq_right bot_le
  have hm₁ : stepM q k₁ (stepM q k₀ (k0_pay5 (F := Ideal))) (ix2 h 0) = ((max M₀ M₁ : ℝ) : EReal) := by
    rw [stepM_at, hm₀]
    simp only [h₁]
    rw [hM₁]
    exact (EReal.coe_strictMono.monotone.map_max).symm
  unfold twoSteps
  rw [quotient_at, stepAcc_at, stepAcc_at, stepL_at, stepL_at]
  simp only [hm₀, hm₁, h₀, h₁, start_max, start_sum, start_acc]
  exact two_pass s₀ s₁ _ _ M₀ (max M₀ M₁)

end Cert.Proof.Scores

end
-- ==== Proof.Attention.lean ====
/- The mathematics the kernel is for: attention of one query token over 2048 keys, by head, and that the kernel's result
   is it when the query and the keys are real numbers. -/
module

public import proofs.«01_k».proof.Proof.Scores
public import proofs.«01_k».proof.Proof.KernelRun

@[expose] public section

noncomputable section

namespace Cert.Proof.Attention

open Idealize.ShloMosaic Cert.KernelIdeal Cert.KernelIdeal.Gen Cert.Proof.Output Cert.Proof.Softmax Cert.Proof.Scores

/-- Every entry is a real number. -/
def IsReal {s : Shape} (x : Vec Ideal s .f32) : Prop := ∀ j, ((x j).toReal : EReal) = x j

/-- The score of token `t` for one head: the scaled dot product, a real number. -/
def score (q : Vec Ideal S8x1x16x128 .f32) (k : Vec Ideal S8x2048x16x128 .f32) (b : Fin 8) (h : Fin 16) (t : Fin 2048) : ℝ :=
  (∑ d : Fin 128, (q (ix4 b 0 h d)).toReal * (k (ix4 b t h d)).toReal) * scale

/-- Attention: the softmax average of the values at the scores, for each batch, head and lane. -/
def attention (q : Vec Ideal S8x1x16x128 .f32) (k v : Vec Ideal S8x2048x16x128 .f32) : Vec Ideal S8x1x16x128 .f32 :=
  fun i => attend (score q k (i 0) (i 2)) (fun t => v (ix4 (i 0) t (i 2) (i 3)))

/-- The kernel's order of the product — the query scaled first — gives the same score. -/
theorem sum_scale_inside (x y : Fin 128 → EReal) (hx : ∀ d, ((x d).toReal : EReal) = x d) (hy : ∀ d, ((y d).toReal : EReal) = y d) (c : ℝ) :
    ∑ d, y d * (x d * (c : EReal)) = (((∑ d, (x d).toReal * (y d).toReal) * c : ℝ) : EReal) := by
  rw [Finset.sum_mul, ← sum_coe]
  refine Finset.sum_congr rfl fun d _ => ?_
  rw [← hx d, ← hy d, ← EReal.coe_mul, ← EReal.coe_mul]
  congr 1
  simp only [EReal.toReal_coe]
  ring

/-- Token `r` of chunk `j` of batch `b`. -/
abbrev tokenOf (j : Fin 2) (r : Fin 1024) : Fin 2048 := ⟨1024 * j.val + r.val, by have := j.isLt; have := r.isLt; omega⟩

/-- A chunk's token is the batch's token: the pages are the sequence cut into runs of 16. -/
theorem tokenAt_pages (x : Vec Ideal S8x2048x16x128 .f32) (hc : S8x2048x16x128.ShapeCasts S1024x16x16x128) (b : Fin 8) (j : Fin 2)
    (r : Fin 1024) (h : Fin 16) (d : Fin 128) :
    tokenAt (pages (shapeCast S1024x16x16x128 x hc) (chunk b j)) r h d = x (ix4 b (tokenOf j r) h d) := by
  refine shapeCast_apply x hc _ _ ?_
  rw [Shape.rowMajor_val_four, Shape.rowMajor_val_four]
  show ((b.val * 2048 + (1024 * j.val + r.val)) * 16 + h.val) * 128 + d.val
    = (((64 * (2 * b.val + j.val) + r.val / 16) * 16 + r.val % 16) * 16 + h.val) * 128 + d.val
  omega

/-- The batch's query row at a head and a lane. -/
theorem queryRow_at (x : Vec Ideal S8x1x16x128 .f32) (hc : S8x1x16x128.ShapeCasts S8x16x128) (b : Fin 8) (h : Fin 16) (d : Fin 128) :
    queryRow (shapeCast S8x16x128 x hc) b (ix3 0 h d) = x (ix4 b 0 h d) := by
  refine shapeCast_apply x hc _ _ ?_
  rw [Shape.rowMajor_val_four, Shape.rowMajor_val_three]
  show ((b.val * 1 + 0) * 16 + h.val) * 128 + d.val = (b.val * 16 + h.val) * 128 + d.val
  omega

/-- The score of a chunk's token is the batch's. -/
theorem score_chunk (q : Vec Ideal S8x1x16x128 .f32) (k : Vec Ideal S8x2048x16x128 .f32) (hq : IsReal q) (hk : IsReal k)
    (hcq : S8x1x16x128.ShapeCasts S8x16x128) (hck : S8x2048x16x128.ShapeCasts S1024x16x16x128) (b : Fin 8) (j : Fin 2) (h : Fin 16)
    (r : Fin 1024) :
    k0_pay9 (queryRow (shapeCast S8x16x128 q hcq) b) (pages (shapeCast S1024x16x16x128 k hck) (chunk b j)) (ix2 h r)
      = (score q k b h (tokenOf j r) : EReal) := by
  rw [score_at]
  refine (Finset.sum_congr rfl fun d _ => congrArg₂ (· * ·) (tokenAt_pages k hck b j r h d)
    (congrArg (· * (scale : EReal)) (queryRow_at q hcq b h d))).trans ?_
  exact sum_scale_inside (fun d => q (ix4 b 0 h d)) (fun d => k (ix4 b (tokenOf j r) h d)) (fun d => hq _) (fun d => hk _) scale

/-- The tokens of the two chunks are the tokens of the sequence. -/
def tokens : Fin 1024 ⊕ Fin 1024 ≃ Fin 2048 := finSumFinEquiv

theorem tokens_left (r : Fin 1024) : tokens (Sum.inl r) = tokenOf 0 r := by
  apply Fin.ext
  show r.val = 1024 * 0 + r.val
  omega

theorem tokens_right (r : Fin 1024) : tokens (Sum.inr r) = tokenOf 1 r := by
  apply Fin.ext
  show 1024 + r.val = 1024 * 1 + r.val
  omega

/-- The kernel's result is attention. -/
theorem result_eq (q : Vec Ideal S8x1x16x128 .f32) (k v : Vec Ideal S8x2048x16x128 .f32) (hq : IsReal q) (hk : IsReal k) :
    KernelRun.result q k v = attention q k v := by
  refine funext fun (i : S8x1x16x128.Idx) => ?_
  obtain ⟨b, z, h, d, rfl⟩ : ∃ (b : Fin 8) (z : Fin 1) (h : Fin 16) (d : Fin 128), i = ix4 b z h d := ⟨i 0, i 1, i 2, i 3, eq_ix4 i⟩
  obtain rfl : z = 0 := Subsingleton.elim _ _
  unfold KernelRun.result
  rw [shapeCast_apply _ _ (ix4 b 0 h d) (ix3 b h d) (by
    rw [Shape.rowMajor_val_four, Shape.rowMajor_val_three]
    show (b.val * 16 + h.val) * 128 + d.val = ((b.val * 1 + 0) * 16 + h.val) * 128 + d.val
    omega)]
  refine (twoSteps_at _ _ _ _ _ h d (fun r => score q k b h (tokenOf 0 r)) (fun r => score q k b h (tokenOf 1 r))
    (fun r => score_chunk q k hq hk _ _ b 0 h r) (fun r => score_chunk q k hq hk _ _ b 1 h r)).trans ?_
  refine Eq.trans ?_ (attend_equiv tokens (score q k b h) (fun t => v (ix4 b t h d)))
  refine congrArg₂ attend (funext fun x => ?_) (funext fun x => ?_)
  · cases x with
    | inl r => rw [tokens_left]; rfl
    | inr r => rw [tokens_right]; rfl
  · cases x with
    | inl r => rw [tokens_left]; exact tokenAt_pages v _ b 0 r h d
    | inr r => rw [tokens_right]; exact tokenAt_pages v _ b 1 r h d

end Cert.Proof.Attention

end
-- ==== Proof.Precondition.lean ====
/- What the precondition says: the block table's words are the numbers below 1024, each once, and every entry of the
   query and of the keys is a real number. Hence the prefetched table names block `t` at grid point `t`. -/
module

public import proofs.«01_k».proof.Defs
public import proofs.«01_k».proof.Proof.Attention

@[expose] public section

noncomputable section

namespace Cert.Proof.Precondition

open Idealize.ShloMosaic Cert.Proof.Attention Cert.Proof.Order

/-- The precondition's side conditions hold. -/
theorem facts : Cert.Pre_permuted_and_finite.Facts := ⟨by decide, by decide, by decide, by decide, by decide, by decide, by decide, by decide⟩

/-! ### Single words and single bits -/

theorem and_one : ∀ a b : BitVec 1, IntOp.andi a b = 1#1 → a = 1#1 ∧ b = 1#1 := by decide
theorem or_one : ∀ a b : BitVec 1, IntOp.ori a b = 1#1 → a = 1#1 ∨ b = 1#1 := by decide
theorem ofBool_one : ∀ b : Bool, BitVec.ofBool b = 1#1 → b = true := by decide

/-- A word from zero up and below 1024, read signed, is a number below 1024. -/
theorem word_range (w : BitVec 32) (h₀ : IntOp.cmpi .sge w 0#32 = 1#1) (h₁ : IntOp.cmpi .slt w 1024#32 = 1#1) : w.toNat < 1024 := by
  have h₀ := ofBool_one _ h₀
  have h₁ := ofBool_one _ h₁
  rw [BitVec.sle_iff_toInt_le] at h₀
  rw [BitVec.slt_iff_toInt_lt] at h₁
  have e₀ : (0#32 : BitVec 32).toInt = 0 := by decide
  have e₁ : (1024#32 : BitVec 32).toInt = 1024 := by decide
  rw [e₀] at h₀
  rw [e₁] at h₁
  rw [BitVec.toInt_eq_toNat_cond] at h₀ h₁
  have := w.isLt
  split_ifs at h₀ h₁ <;> omega

/-- An extended real whose absolute value is below infinity is a real number. -/
theorem real_of_abs (x : EReal) (h : max x (-x) < ⊤) : ((x.toReal : ℝ) : EReal) = x := by
  refine EReal.coe_toReal ?_ ?_
  · rintro rfl
    exact absurd h (by simp)
  · rintro rfl
    exact absurd h (by simp)

/-! ### The predicate at an index -/

section
open Cert.Pre_permuted_and_finite

variable [Facts] (q : FVec Ideal S8x1x16x128 .f32) (k v : FVec Ideal S8x2048x16x128 .f32) (kc vc : FVec Ideal S1024x16x16x128 .f32)
  (t : IVec S8x128 32)

/-- Entry `a` of the flat table. -/
abbrev entry (a : Fin 1024) : BitVec 32 := t (ix2 ⟨a.val / 128, by have := a.isLt; omega⟩ ⟨a.val % 128, by omega⟩)

theorem table_at (a b : Fin 1024) : (fn q k v kc vc t).1 (ix2 a b)
    = IntOp.andi (IntOp.andi (IntOp.cmpi .sge (entry t a) 0#32) (IntOp.cmpi .slt (entry t a) 1024#32))
        (IntOp.ori (IntOp.cmpi .ne (entry t a) (entry t b)) (IntOp.cmpi .eq (BitVec.ofNat 32 a.val) (BitVec.ofNat 32 b.val))) := by
  pointwise [fn, fn_part1]

theorem query_at (j : S8x1x16x128.Idx) : (fn q k v kc vc t).2.1 j = BitVec.ofBool (decide (max (q j) (-(q j)) < ⊤)) := by
  have hb : Ideal.ofBits FTy.f32 2139095040#32 = ⊤ := by simp [Ideal.ofBits, Ideal.ieee]
  rw [← hb]
  rfl

theorem key_at (j : S8x2048x16x128.Idx) : (fn q k v kc vc t).2.2 j = BitVec.ofBool (decide (max (k j) (-(k j)) < ⊤)) := by
  have hb : Ideal.ofBits FTy.f32 2139095040#32 = ⊤ := by simp [Ideal.ofBits, Ideal.ieee]
  rw [← hb]
  rfl

/-- The table's words are the values of an injection of the numbers below 1024. -/
theorem entries (h : (fn q k v kc vc t).1 = fun _ => 1#1) :
    ∃ w : Fin 1024 → Fin 1024, Function.Injective w ∧ ∀ a, entry t a = BitVec.ofNat 32 (w a).val := by
  have hbit : ∀ a b, _ := fun a b => and_one _ _ ((table_at q k v kc vc t a b).symm.trans (congrFun h (ix2 a b)))
  have hlt : ∀ a, (entry t a).toNat < 1024 := fun a =>
    let hr := and_one _ _ (hbit a a).1
    word_range _ hr.1 hr.2
  refine ⟨fun a => ⟨(entry t a).toNat, hlt a⟩, fun a b hab => ?_, fun a => (BitVec.ofNat_toNat 32 (entry t a)).symm ▸ (BitVec.setWidth_eq _).symm⟩
  have he : entry t a = entry t b := BitVec.eq_of_toNat_eq (Fin.mk.inj hab)
  rcases or_one _ _ (hbit a b).2 with hne | heq
  · have := ofBool_one _ hne
    simp [he] at this
  · have hw := congrArg BitVec.toNat (beq_iff_eq.mp (ofBool_one _ heq))
    rw [BitVec.toNat_ofNat, BitVec.toNat_ofNat, Nat.mod_eq_of_lt (by have := a.isLt; omega), Nat.mod_eq_of_lt (by have := b.isLt; omega)] at hw
    exact Fin.ext hw

theorem query_real (h : (fn q k v kc vc t).2.1 = fun _ => 1#1) : IsReal q := fun j =>
  real_of_abs _ (of_decide_eq_true (ofBool_one _ ((query_at q k v kc vc t j).symm.trans (congrFun h j))))

theorem key_real (h : (fn q k v kc vc t).2.2 = fun _ => 1#1) : IsReal k := fun j =>
  real_of_abs _ (of_decide_eq_true (ofBool_one _ ((key_at q k v kc vc t j).symm.trans (congrFun h j))))

/-- An entry of the reshaped table. -/
theorem flat_entry (hc : S8x128.ShapeCasts S1024) (a : Fin 1024) : shapeCast S1024 t hc (at1 a) = entry t a := by
  refine shapeCast_apply t hc _ _ ?_
  rw [Shape.rowMajor_val_two, Shape.rowMajor_val_one]
  show a.val / 128 * 128 + a.val % 128 = a.val
  omega
end

/-! ### The prefetched table -/

section
open Cert.KernelIdeal Cert.KernelIdeal.Gen Cert.Proof.Output

variable (m : (ℓ : Loc nD τ sig) → Buf (Elt Ideal) ℓ)

/-- The offsets of the table's read at a grid point: the batch, and 64 times the chunk. -/
theorem offsets : ∀ t : Fin grid0.N, k0_off1 (grid0.coords t) 0 * 128 + k0_off1 (grid0.coords t) 1 = 64 * t.val := by decide +kernel

/-- Where the flat table's words are the numbers below 1024, each once, the prefetched table counts up. -/
theorem word_at (w : Fin 1024 → Fin 1024) (hw : Function.Injective w)
    (h : ∀ a, KernelIdealTable.flat m 0 (at1 a) = BitVec.ofNat 32 (w a).val) (j : S8x128.Idx) (n : Nat) (hn : n < 1024)
    (hj : (j 0).val * 128 + (j 1).val = n) : (tbl m 0 : IVec S8x128 32) j = BitVec.ofNat 32 n := by
  have hT : (tbl m 0 : IVec S8x128 32) = shapeCast S8x128 (KernelIdealTable.inv m 0) shapeCasts_S1024_S8x128 := KernelIdealTable.table_eq m 0
  rw [hT, shapeCast_apply _ _ j (at1 (⟨n, hn⟩ : Fin 1024)) (by
    rw [Shape.rowMajor_val_two, Shape.rowMajor_val_one]
    exact hj.symm)]
  exact inverse_number _ rfl rfl rfl rfl _ _ _ _ (by decide) w h hw _

/-- Then grid point `t` reads block `t`. -/
theorem straight (w : Fin 1024 → Fin 1024) (hw : Function.Injective w)
    (h : ∀ a, KernelIdealTable.flat m 0 (at1 a) = BitVec.ofNat 32 (w a).val) : Straight m := by
  intro t
  have ht : t.val < 16 := lt_of_lt_of_eq t.isLt (show grid0.N = 16 from N_0)
  have hword : KernelIdealTable.wordAt m (grid0.coords t) = BitVec.ofNat 32 (64 * t.val) :=
    word_at m w hw h _ _ (by omega) (offsets t)
  rw [hword, BitVec.toNat_ofNat, Nat.mod_eq_of_lt (by omega)]
  omega

end

end Cert.Proof.Precondition

end
-- ==== Proof.Paging.lean ====
/- Writing pages through a table and reading them back through it.

   Page `a` is written at place `w a` of the cache and read from there; where no two pages share a place, what is read is
   what was written, whatever the cache held. -/
module

public import proofs.«01_k».proof.Proof.Gen.ReferenceIdeal.Run
public import Idealize.ShloMosaic.Lib.Routing.OpsSet
public import Idealize.ShloMosaic.Lib.Routing.OpsPair
public import Idealize.ShloMosaic.Lib.Pointwise
public import proofs.«01_k».proof.Proof.Order

@[expose] public section

noncomputable section

namespace Cert.Proof.Paging

open Idealize.ShloMosaic Cert.ReferenceIdeal Cert.ReferenceIdeal.Gen

/-- The places of the pages: column 0 of the index array. -/
def Names (idx : IVec S1024x1 32) (w : Fin 1024 → Fin 1024) : Prop := ∀ a, idx (ix2 a 0) = BitVec.ofNat 32 (w a).val

variable {α : Type} (idx : IVec S1024x1 32) (w : Fin 1024 → Fin 1024) (hidx : Names idx w)

include hidx in
theorem name_toInt (a : Fin 1024) : (idx (ix2 a 0)).toInt = (w a).val := by
  rw [hidx a]
  exact Order.toInt_number (by have := (w a).isLt; omega)

/-- Place of the cache that entry `j` of the pages goes to. -/
abbrev place (w : Fin 1024 → Fin 1024) (j : S1024x16x16x128.Idx) : S1024x16x16x128.Idx := ix4 (w (j 0)) (j 1) (j 2) (j 3)

include hidx in
/-- The entry read for `j` is the one at its place. -/
theorem gather_idx (j : S1024x16x16x128.Idx) :
    gather_S1024x16x16x128_S1024x1_S1024x16x16x128_123_0_n_n_0_1_11616128.operandIdx j idx = place w j := by
  have h0 := name_toInt idx w hidx (j 0)
  have hw := (w (j 0)).isLt
  refine funext fun a => Fin.ext ?_
  fin_cases a
  · show min (idx _).toInt.toNat (1024 - 1) + 0 + 0 = (w (j 0)).val
    have clamp : ∀ z : Int, z = ((w (j 0)).val : Int) → min z.toNat (1024 - 1) + 0 + 0 = (w (j 0)).val := by
      intro z hz
      omega
    refine clamp _ (Eq.trans ?_ h0)
    refine congrArg (fun i => (idx i).toInt) (funext fun b => ?_)
    fin_cases b <;> rfl
  · show 0 + 0 + (j 1).val = (j 1).val
    omega
  · show 0 + 0 + (j 2).val = (j 2).val
    omega
  · show 0 + 0 + (j 3).val = (j 3).val
    omega

include hidx in
/-- Entry `k` of the pages is written at its place, and nowhere else. -/
theorem scatter_idx (k ι : S1024x16x16x128.Idx) :
    scatter_S1024x16x16x128_S1024x1_S1024x16x16x128_123_0_0_1.resultIdx? k idx = some ι ↔ ι = place w k := by
  rw [Routing.resultIdx?_eq_some]
  have h0 := name_toInt idx w hidx (k 0)
  have e0 : scatter_S1024x16x16x128_S1024x1_S1024x16x16x128_123_0_0_1.start k idx 0 = ((w (k 0)).val : Int) := by
    refine Eq.trans ?_ h0
    show (idx _).toInt = _
    refine congrArg (fun i => (idx i).toInt) (funext fun b => ?_)
    fin_cases b <;> rfl
  constructor
  · intro h
    refine funext fun a => Fin.ext ?_
    have ha := h a
    fin_cases a
    · have ha : scatter_S1024x16x16x128_S1024x1_S1024x16x16x128_123_0_0_1.start k idx 0 + ((0 : Nat) : Int) = ((ι 0).val : Int) := ha
      show (ι 0).val = (w (k 0)).val
      omega
    · have ha : (0 : Int) + (((k 1).val : Nat) : Int) = ((ι 1).val : Int) := ha
      show (ι 1).val = (k 1).val
      omega
    · have ha : (0 : Int) + (((k 2).val : Nat) : Int) = ((ι 2).val : Int) := ha
      show (ι 2).val = (k 2).val
      omega
    · have ha : (0 : Int) + (((k 3).val : Nat) : Int) = ((ι 3).val : Int) := ha
      show (ι 3).val = (k 3).val
      omega
  · rintro rfl a
    fin_cases a
    · show scatter_S1024x16x16x128_S1024x1_S1024x16x16x128_123_0_0_1.start k idx 0 + ((0 : Nat) : Int) = ((w (k 0)).val : Int)
      omega
    · show (0 : Int) + (((k 1).val : Nat) : Int) = ((k 1).val : Int)
      omega
    · show (0 : Int) + (((k 2).val : Nat) : Int) = ((k 2).val : Int)
      omega
    · show (0 : Int) + (((k 3).val : Nat) : Int) = ((k 3).val : Int)
      omega

include hidx in
/-- What is read back is what was written. -/
theorem read_back (hw : Function.Injective w) (cache new : S1024x16x16x128.Idx → α) :
    Host.gather gather_S1024x16x16x128_S1024x1_S1024x16x16x128_123_0_n_n_0_1_11616128
      (Host.scatter scatter_S1024x16x16x128_S1024x1_S1024x16x16x128_123_0_0_1 (fun _ b => b) cache idx new) idx = new := by
  refine funext fun j => ?_
  show Host.scatter _ _ _ _ _ (gather_S1024x16x16x128_S1024x1_S1024x16x16x128_123_0_n_n_0_1_11616128.operandIdx j idx) = _
  rw [gather_idx idx w hidx j]
  refine Routing.scatter_set_hit _ cache idx new _ (new j) (fun k hk => ?_) j ((scatter_idx idx w hidx j _).2 rfl)
  have h := (scatter_idx idx w hidx k _).1 hk
  refine congrArg new (funext fun a => ?_)
  fin_cases a
  · exact (hw (congrFun h 0)).symm
  · exact (congrFun h 1).symm
  · exact (congrFun h 2).symm
  · exact (congrFun h 3).symm

end Cert.Proof.Paging

end
-- ==== Proof.Reading.lean ====
/- The reference's cache: the pages written through the block table and taken back through it are the pages. -/
module

public import proofs.«01_k».proof.Proof.Paging

@[expose] public section

noncomputable section

namespace Cert.Proof.Reading

open Idealize.ShloMosaic Cert.ReferenceIdeal Cert.ReferenceIdeal.Gen Cert.Proof.Paging Cert.Proof.Order

/-- The index array the reference makes of the flat table: a negative word counts from the end. -/
def index (flat : IVec S1024 32) : IVec S1024x1 32 :=
  broadcastInDim S1024x1 ![0] bcast_S1024_S1024x1_0 (select (cmpi .slt flat (broadcastInDim S1024 ![] bcast_S_S1024 (constantI S_ 32 0#32)))
    (addi flat (broadcastInDim S1024 ![] bcast_S_S1024 (constantI S_ 32 1024#32))) flat)

/-- Whether each index lies in the cache. -/
def inside (idx : IVec S1024x1 32) : IVec S1024 1 :=
  Host.reduce IntOp.andi (andi (cmpi .sge idx (broadcastInDim S1024x1 ![] bcast_S_S1024x1 (constantI S_ 32 0#32)))
    (cmpi .sle idx (broadcastInDim S1024x1 ![0, 1] bcast_S1x1_S1024x1_0_1 (broadcastInDim S1x1 ![1] bcast_S1_S1x1_1 (constantI S1 32 1023#32)))))
    (constantI S_ 1 1#1) reducesTo_S1024x1_S1024_d1 h_S_

/-- The pages taken from the cache that the new pages were written into; outside the cache, the filler. -/
def taken (flat : IVec S1024 32) (cache new : FVec Ideal S1024x16x16x128 .f32) : FVec Ideal S1024x16x16x128 .f32 :=
  select (broadcastInDim S1024x16x16x128 ![0] bcast_S1024_S1024x16x16x128_0 (inside (index flat)))
    (Host.gather gather_S1024x16x16x128_S1024x1_S1024x16x16x128_123_0_n_n_0_1_11616128
      (Host.scatter scatter_S1024x16x16x128_S1024x1_S1024x16x16x128_123_0_0_1 (fun _ b => b) cache (index flat) new) (index flat))
    (broadcastInDim S1024x16x16x128 ![] bcast_S_S1024x16x16x128 (constant S_ .f32 0x7FC00000#32))

variable (flat : IVec S1024 32) (w : Fin 1024 → Fin 1024) (hflat : ∀ a, flat (at1 a) = BitVec.ofNat 32 (w a).val)

theorem index_at (a : Fin 1024) : index flat (ix2 a 0) = wrap 1024#32 (flat (at1 a)) := by
  pointwise [index]
  have h : (at1 a : S1024.Idx) = ix1 a := funext fun b => by fin_cases b; rfl
  rw [h]
  rfl

include hflat in
/-- The table's numbers are the indices. -/
theorem index_names : Names (index flat) w := fun a => by
  rw [index_at, hflat a]
  exact wrap_number _ (by have := (w a).isLt; omega)

/-- A number below 1024 passes both comparisons. -/
theorem inside_word {k : Nat} (hk : k < 1024) :
    IntOp.andi (IntOp.cmpi .sge (BitVec.ofNat 32 k) 0#32) (IntOp.cmpi .sle (BitVec.ofNat 32 k) 1023#32) = 1#1 := by
  have h1 := toInt_number (k := k) (by omega)
  have e₀ : (0#32 : BitVec 32).toInt = 0 := by decide
  have e₁ : (1023#32 : BitVec 32).toInt = 1023 := by decide
  have hge : (0#32 : BitVec 32).sle (BitVec.ofNat 32 k) = true := by
    rw [BitVec.sle_iff_toInt_le, e₀, h1]
    omega
  have hle : (BitVec.ofNat 32 k).sle 1023#32 = true := by
    rw [BitVec.sle_iff_toInt_le, e₁, h1]
    omega
  have hge' : IntOp.cmpi .sge (BitVec.ofNat 32 k) 0#32 = 1#1 := congrArg BitVec.ofBool hge
  have hle' : IntOp.cmpi .sle (BitVec.ofNat 32 k) 1023#32 = 1#1 := congrArg BitVec.ofBool hle
  rw [hge', hle']
  rfl

/-- An index array of numbers below 1024 lies in the cache. -/
theorem inside_names (idx : IVec S1024x1 32) (hidx : Names idx w) (a : Fin 1024) : inside idx (at1 a) = 1#1 := by
  pointwise [inside]
  rw [Finset.univ_unique, Finset.fold_singleton]
  have h := inside_word (w a).isLt
  rw [← hidx a] at h
  exact congrArg (IntOp.andi · 1#1) h

include hflat in
/-- What is taken is what was written. -/
theorem taken_eq (hw : Function.Injective w) (cache new : FVec Ideal S1024x16x16x128 .f32) : taken flat cache new = new := by
  have hidx := index_names flat w hflat
  unfold taken
  rw [read_back (index flat) w hidx hw cache new]
  refine funext fun (j : S1024x16x16x128.Idx) => ?_
  have h : broadcastInDim S1024x16x16x128 ![0] bcast_S1024_S1024x16x16x128_0 (inside (index flat)) j = 1#1 := by
    refine Eq.trans ?_ (inside_names w (index flat) hidx (j 0))
    refine congrArg (inside (index flat)) (funext fun b => ?_)
    fin_cases b
    rfl
  exact if_pos h

end Cert.Proof.Reading

end
-- ==== Proof.RefValue.lean ====
/- The reference's arithmetic is attention: one pass of softmax over the 2048 keys, then the average of the values. -/
module

public import proofs.«01_k».proof.Proof.Attention
public import proofs.«01_k».proof.Proof.Gen.ReferenceIdeal.Run
public import Idealize.ShloMosaic.Lib.Pointwise

@[expose] public section

noncomputable section

namespace Cert.Proof.RefValue

open Idealize.ShloMosaic Cert.ReferenceIdeal Cert.ReferenceIdeal.Gen Cert.Proof.Softmax Cert.Proof.Attention Cert.Proof.Scores

/-- The scaled dot products. -/
def scores (q : FVec Ideal S8x1x16x128 .f32) (k : FVec Ideal S8x2048x16x128 .f32) : FVec Ideal S8x16x1x2048 .f32 :=
  mulf (Host.dotGeneral dot_S8x1x16x128_S8x2048x16x128_S8x16x1x2048_3_3_1_1_02_02 none q k)
    (broadcastInDim S8x16x1x2048 ![] bcast_S_S8x16x1x2048 (Host.divf (constant S_ .f32 0x3F800000#32) (Host.sqrt (constant S_ .f32 0x43000000#32))))

/-- The exponentials of the scores less their largest. -/
def exps (s : FVec Ideal S8x16x1x2048 .f32) : FVec Ideal S8x16x1x2048 .f32 :=
  Host.exp (subf s (broadcastInDim S8x16x1x2048 ![0, 1, 2, 3] bcast_S8x16x1x1_S8x16x1x2048_0_1_2_3
    (broadcastInDim S8x16x1x1 ![0, 1, 2] bcast_S8x16x1_S8x16x1x1_0_1_2 (maximumf
      (broadcastInDim S8x16x1 ![] bcast_S_S8x16x1 (constant S_ .f32 0xFF800000#32))
      (Host.reduce FloatOps.maximumf s (constant S_ .f32 0xFF800000#32) reducesTo_S8x16x1x2048_S8x16x1_d3 h_S_)))))

/-- The weights: the exponentials over their sum. -/
def weights (e : FVec Ideal S8x16x1x2048 .f32) : FVec Ideal S8x16x1x2048 .f32 :=
  Host.divf e (broadcastInDim S8x16x1x2048 ![0, 1, 2, 3] bcast_S8x16x1x1_S8x16x1x2048_0_1_2_3
    (broadcastInDim S8x16x1x1 ![0, 1, 2] bcast_S8x16x1_S8x16x1x1_0_1_2
      (Host.reduceAdd e (constant S_ .f32 0x00000000#32) reducesTo_S8x16x1x2048_S8x16x1_d3 h_S_)))

/-- The average of the values at the weights. -/
def average (p : FVec Ideal S8x16x1x2048 .f32) (v : FVec Ideal S8x2048x16x128 .f32) : FVec Ideal S8x1x16x128 .f32 :=
  transpose S8x1x16x128 [0, 3, 1, 2] (Host.dotGeneral dot_S8x2048x16x128_S8x16x1x2048_S8x16x128x1_1_3_3_2_02_01 none v p)
    transposes_S8x16x128x1_S8x1x16x128_0_3_1_2

/-- The reference's attention. -/
def soft (q : FVec Ideal S8x1x16x128 .f32) (k v : FVec Ideal S8x2048x16x128 .f32) : FVec Ideal S8x1x16x128 .f32 :=
  average (weights (exps (scores q k))) v

theorem average_at (p : FVec Ideal S8x16x1x2048 .f32) (v : FVec Ideal S8x2048x16x128 .f32) (b : Fin 8) (h : Fin 16) (d : Fin 128) :
    average p v (ix4 b 0 h d) = ∑ t : Fin 2048, v (ix4 b t h d) * p (ix4 b h 0 t) := by
  pointwise [average]

theorem weights_at (e : FVec Ideal S8x16x1x2048 .f32) (b : Fin 8) (h : Fin 16) (t : Fin 2048) :
    weights e (ix4 b h 0 t) = Ideal.div (e (ix4 b h 0 t)) (0 + ∑ t' : Fin 2048, e (ix4 b h 0 t')) := by
  pointwise [weights]

theorem exps_at (s : FVec Ideal S8x16x1x2048 .f32) (b : Fin 8) (h : Fin 16) (t : Fin 2048) :
    exps s (ix4 b h 0 t) = Ideal.exp (s (ix4 b h 0 t) - Finset.univ.fold max ⊥ fun t' : Fin 2048 => s (ix4 b h 0 t')) := by
  have hb : Ideal.ofBits FTy.f32 4286578688#32 = ⊥ := by simp [Ideal.ofBits, Ideal.ieee]
  pointwise [exps]
  rw [hb, bot_sup_eq]

/-- The constant 128. -/
theorem ofBits_128 : Ideal.ofBits FTy.f32 1124073472#32 = ((128 : ℝ) : EReal) := by
  simp [Ideal.ofBits, Ideal.ieee, -EReal.coe_mul]
  norm_num

/-- One over the root of 128 is the scale. -/
theorem scale_eq : Ideal.div 1 (Ideal.sqrt (Ideal.ofBits FTy.f32 1124073472#32)) = (scale : EReal) := by
  have hs : (0 : ℝ) < Real.sqrt 128 := Real.sqrt_pos.mpr (by norm_num)
  have h : Ideal.sqrt ((128 : ℝ) : EReal) = ((Real.sqrt 128 : ℝ) : EReal) := if_neg (by norm_num)
  rw [ofBits_128, h, div_coe _ hs.ne', one_mul]

theorem scores_at (q : FVec Ideal S8x1x16x128 .f32) (k : FVec Ideal S8x2048x16x128 .f32) (b : Fin 8) (h : Fin 16) (t : Fin 2048) :
    scores q k (ix4 b h 0 t) = (∑ d : Fin 128, q (ix4 b 0 h d) * k (ix4 b t h d)) * (scale : EReal) := by
  pointwise [scores]
  rw [scale_eq]

/-- On real numbers the scaled dot products are the scores. -/
theorem scores_real (q : FVec Ideal S8x1x16x128 .f32) (k : FVec Ideal S8x2048x16x128 .f32) (hq : IsReal q) (hk : IsReal k) (b : Fin 8)
    (h : Fin 16) (t : Fin 2048) : scores q k (ix4 b h 0 t) = (score q k b h t : EReal) := by
  rw [scores_at]
  unfold score
  rw [EReal.coe_mul, ← sum_coe]
  refine congrArg (· * (scale : EReal)) (Finset.sum_congr rfl fun d _ => ?_)
  rw [EReal.coe_mul, hq, hk]

/-- The reference's attention is attention. -/
theorem soft_eq (q : FVec Ideal S8x1x16x128 .f32) (k v : FVec Ideal S8x2048x16x128 .f32) (hq : IsReal q) (hk : IsReal k) :
    soft q k v = attention q k v := by
  refine funext fun (i : S8x1x16x128.Idx) => ?_
  obtain ⟨b, z, h, d, rfl⟩ : ∃ (b : Fin 8) (z : Fin 1) (h : Fin 16) (d : Fin 128), i = ix4 b z h d := ⟨i 0, i 1, i 2, i 3, eq_ix4 i⟩
  obtain rfl : z = 0 := Subsingleton.elim _ _
  obtain ⟨M, hM⟩ := fold_max_real (score q k b h)
  have he : ∀ t, exps (scores q k) (ix4 b h 0 t) = Ideal.exp ((score q k b h t : EReal) - (M : EReal)) := fun t => by
    rw [exps_at]
    simp only [scores_real q k hq hk]
    rw [hM]
  unfold soft
  rw [average_at]
  refine Eq.trans (Finset.sum_congr rfl fun t _ => ?_) (one_pass (score q k b h) (fun t => v (ix4 b t h d)) M)
  rw [weights_at, mul_comm]
  simp only [he]

end Cert.Proof.RefValue

end
-- ==== Proof.Reference.lean ====
/- The reference's result is attention of the query, the keys and the values: its cache drops out. -/
module

public import proofs.«01_k».proof.Proof.Reading
public import proofs.«01_k».proof.Proof.RefValue

@[expose] public section

noncomputable section

namespace Cert.Proof.Reference

open Idealize.ShloMosaic Cert.ReferenceIdeal Cert.ReferenceIdeal.Gen Cert.Proof.Attention Cert.Proof.Order Cert.Proof.Reading

/-- A sequence cut into pages, written and taken back through the table, and put together again. -/
def through (t : IVec S8x128 32) (cache : FVec Ideal S1024x16x16x128 .f32) (x : FVec Ideal S8x2048x16x128 .f32) : FVec Ideal S8x2048x16x128 .f32 :=
  shapeCast S8x2048x16x128 (taken (shapeCast S1024 t shapeCasts_S8x128_S1024) cache (shapeCast S1024x16x16x128 x shapeCasts_S8x2048x16x128_S1024x16x16x128))
    shapeCasts_S1024x16x16x128_S8x2048x16x128

/-- It is the sequence. -/
theorem through_eq (t : IVec S8x128 32) (w : Fin 1024 → Fin 1024) (hw : Function.Injective w)
    (ht : ∀ a, shapeCast S1024 t shapeCasts_S8x128_S1024 (at1 a) = BitVec.ofNat 32 (w a).val)
    (cache : FVec Ideal S1024x16x16x128 .f32) (x : FVec Ideal S8x2048x16x128 .f32) : through t cache x = x := by
  unfold through
  rw [taken_eq _ w ht hw]
  exact shapeCast_shapeCast x _ _

variable (m : (ℓ : Loc nD τ sig) → Buf (Elt Ideal) ℓ) (c : Dev nD)

/-- The reference's operations, by their parts. -/
theorem parts : Value.res_main_v38 m c = RefValue.soft (m ((c.tc : Thread nD τ).loc main_arg0))
    (through (m ((c.tc : Thread nD τ).loc main_arg5)) (m ((c.tc : Thread nD τ).loc main_arg3)) (m ((c.tc : Thread nD τ).loc main_arg1)))
    (through (m ((c.tc : Thread nD τ).loc main_arg5)) (m ((c.tc : Thread nD τ).loc main_arg4)) (m ((c.tc : Thread nD τ).loc main_arg2))) := rfl

/-- The reference's result, where the flat table names each place once and the query and the keys are real. -/
theorem value (w : Fin 1024 → Fin 1024) (hw : Function.Injective w)
    (ht : ∀ a, shapeCast S1024 (m ((c.tc : Thread nD τ).loc main_arg5)) shapeCasts_S8x128_S1024 (at1 a) = BitVec.ofNat 32 (w a).val)
    (hq : IsReal (s := S8x1x16x128) (m ((c.tc : Thread nD τ).loc main_arg0)))
    (hk : IsReal (s := S8x2048x16x128) (m ((c.tc : Thread nD τ).loc main_arg1))) :
    Value.res_main_v38 m c = attention (m ((c.tc : Thread nD τ).loc main_arg0)) (m ((c.tc : Thread nD τ).loc main_arg1))
      (m ((c.tc : Thread nD τ).loc main_arg2)) := by
  refine (parts m c).trans ?_
  rw [through_eq _ w hw ht, through_eq _ w hw ht]
  exact RefValue.soft_eq _ _ _ hq hk

end Cert.Proof.Reference

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.BitsTable
public import proofs.«01_k».proof.Proof.IdealTable
public import proofs.«01_k».proof.Proof.KernelRun
public import proofs.«01_k».proof.Proof.Precondition
public import proofs.«01_k».proof.Proof.Reference
public import Idealize.ShloMosaic.Adequacy
public import Idealize.ShloMosaic.Init

@[expose] public section

noncomputable section

namespace Cert.Proof

open Idealize.ShloMosaic Idealize.SL.Sem

/-- The reference ends with its arguments unchanged and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  (θ_run _ _ _).mono (fun r h => ⟨fun c => (h c).2, sem_eq_zero_of_no_sems (by decide) r.2⟩) (Cert.ReferenceIdeal.Value.run m ρ)

/-- The flat table of an argument: its entries, where they are the numbers `w`. -/
theorem flat_of [Cert.Pre_permuted_and_finite.Facts] (t : IVec Cert.Pre_permuted_and_finite.S8x128 32) (w : Fin 1024 → Fin 1024)
    (h : ∀ a, Precondition.entry t a = BitVec.ofNat 32 (w a).val) (hc) (a : Fin 1024) :
    shapeCast Cert.Pre_permuted_and_finite.S1024 t hc (Order.at1 a) = BitVec.ofNat 32 (w a).val :=
  (Precondition.flat_entry t hc a).trans (h a)

/-- Under the precondition the kernel and the reference end with the same array: attention. -/
theorem same_result : @Cert.algebraic_KernelIdeal_ReferenceIdeal_pre_permuted_and_finite Cert.KernelIdeal.Gen.facts
    Cert.ReferenceIdeal.Gen.facts Precondition.facts := by
  intro m ρ m' ρ' hpre hargs
  letI := Precondition.facts
  refine ⟨fun c => Attention.attention
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · obtain ⟨w, hw, hent⟩ := Precondition.entries _ _ _ _ _ _ (hpre 0).1
    have hs : Output.Straight m := Precondition.straight m w hw (fun a => flat_of _ w hent _ a)
    refine (θ_run _ _ _).mono (fun r h c => ⟨(h c).1.trans ?_, (h c).2⟩) (KernelRun.run m ρ (KernelIdealTable.ok m) hs)
    exact Attention.result_eq _ _ _ (Precondition.query_real _ _ _ _ _ _ (hpre c).2.1) (Precondition.key_real _ _ _ _ _ _ (hpre c).2.2)
  · refine (θ_run _ _ _).mono (fun r h c => ⟨(h c).1.trans ?_, (h c).2⟩) (Cert.ReferenceIdeal.Value.run m' ρ')
    obtain ⟨w, hw, hent⟩ := Precondition.entries _ _ _ _ _ _ (hpre c).1
    obtain ⟨h0, h1, h2, h3, h4, h5⟩ := hargs c
    have hq := Precondition.query_real _ _ _ _ _ _ (hpre c).2.1
    have hk := Precondition.key_real _ _ _ _ _ _ (hpre c).2.2
    rw [← h5] at hent
    rw [← h0] at hq
    rw [← h1] at hk
    beta_reduce
    rw [← h0, ← h1, ← h2]
    exact Reference.value m' c w hw (fun a => flat_of _ w hent _ a) hq hk

theorem claim : Cert.Claim :=
  ⟨Cert.Kernel.Gen.facts, Cert.KernelIdeal.Gen.facts, Cert.ReferenceIdeal.Gen.facts, Precondition.facts,
    fun m ρ _ => Cert.Kernel.Gen.frame m ρ (KernelTable.ok m),
    fun m ρ _ => Cert.KernelIdeal.Gen.frame m ρ (KernelIdealTable.ok m),
    fun m ρ _ => Cert.KernelIdeal.Gen.frame m ρ (KernelIdealTable.ok m),
    fun m ρ _ => reference_frame m ρ,
    fun m ρ _ => reference_frame m ρ,
    IdealRules.named_const.statement Cert.KernelIdeal.κ "scale" .f32 0x3DB504F3#32 (((Real.sqrt 128)⁻¹ : ℝ) : EReal) rfl,
    same_result⟩

end Cert.Proof

end
